-- ==== Defs.lean ====
def Pre_Kernel [hPre_index_range : Cert.Pre_index_range.Facts] (m : (ℓ : Loc Cert.Kernel.nD Cert.Kernel.τ Cert.Kernel.sig) → Buf (Elt Bits) ℓ) : Prop :=
  ∀ c : Dev Cert.Kernel.nD,
    (Cert.Pre_index_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_index_range : Cert.Pre_index_range.Facts] (m : (ℓ : Loc Cert.KernelIdeal.nD Cert.KernelIdeal.τ Cert.KernelIdeal.sig) → Buf (Elt Ideal) ℓ) : Prop :=
  ∀ c : Dev Cert.KernelIdeal.nD,
    (Cert.Pre_index_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_index_range [hPre_index_range : Cert.Pre_index_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_index_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_index_range : Cert.Pre_index_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_index_range : Cert.Pre_index_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_index_range [hReferenceIdeal : Cert.ReferenceIdeal.Facts] [hPre_index_range : Cert.Pre_index_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_index_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_index_range : Cert.Pre_index_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_index_range : Cert.Pre_index_range.Facts),
    quiescent_Kernel (hKernel := hKernel) (hPre_index_range := hPre_index_range)
    ∧ quiescent_KernelIdeal (hKernelIdeal := hKernelIdeal) (hPre_index_range := hPre_index_range)
    ∧ quiescent_ReferenceIdeal (hReferenceIdeal := hReferenceIdeal)
    ∧ quiescent_ReferenceIdeal_pre_index_range (hReferenceIdeal := hReferenceIdeal) (hPre_index_range := hPre_index_range)
    ∧ preserves_Kernel_KernelIdeal
    ∧ algebraic_KernelIdeal_ReferenceIdeal (hKernelIdeal := hKernelIdeal) (hReferenceIdeal := hReferenceIdeal) (hPre_index_range := hPre_index_range)
-- ==== Pre_index_range.lean ====
abbrev S32x256x768 : Shape := ⟨3, ![32, 256, 768]⟩
abbrev S32x256x8 : Shape := ⟨3, ![32, 256, 8]⟩
abbrev S50000x768 : Shape := ⟨2, ![50000, 768]⟩
abbrev S768x768 : Shape := ⟨2, ![768, 768]⟩
abbrev S_ : Shape := ⟨0, ![]⟩

class Facts : Prop where
  bcast_S_S32x256x8 : S_.BroadcastsInDim S32x256x8 (![] : Fin 0 → Fin S32x256x8.rank)
  reducesTo_S32x256x8_S_d0_1_2 : S32x256x8.ReducesTo [0, 1, 2] S_
  h_S_ : 0 < S_.numel

variable [Facts]

def fn {F : FTy → Type} [FloatOps F] (main_arg0 : FVec F S32x256x768 .f32) (main_arg1 : IVec S32x256x8 32) (main_arg2 : FVec F S50000x768 .f32) (main_arg3 : FVec F S768x768 .f32) : IVec S_ 1 :=
  let main_c : IVec S_ 32 := constantI S_ 32 0#32
  let main_v0 : IVec S32x256x8 32 := broadcastInDim S32x256x8 ![] bcast_S_S32x256x8 main_c
  let main_v1 : IVec S32x256x8 1 := cmpi .sge main_arg1 main_v0
  let main_c_0 : IVec S_ 32 := constantI S_ 32 50000#32
  let main_v2 : IVec S32x256x8 32 := broadcastInDim S32x256x8 ![] bcast_S_S32x256x8 main_c_0
  let main_v3 : IVec S32x256x8 1 := cmpi .slt main_arg1 main_v2
  let main_v4 : IVec S32x256x8 1 := andi main_v1 main_v3
  let main_c_1 : IVec S_ 1 := constantI S_ 1 1#1
  let main_v5 : IVec S_ 1 := (fun x v => Host.reduce IntOp.andi x v reducesTo_S32x256x8_S_d0_1_2 h_S_) main_v4 main_c_1
  main_v5
-- ==== Kernel.lean ====
abbrev S32x256x768 : Shape := ⟨3, ![32, 256, 768]⟩
abbrev S32x256x8 : Shape := ⟨3, ![32, 256, 8]⟩
abbrev S50000x768 : Shape := ⟨2, ![50000, 768]⟩
abbrev S768x768 : Shape := ⟨2, ![768, 768]⟩
abbrev S65536 : Shape := ⟨1, ![65536]⟩
abbrev S8192x768 : Shape := ⟨2, ![8192, 768]⟩
abbrev S50000x1x768 : Shape := ⟨3, ![50000, 1, 768]⟩
abbrev S128x768 : Shape := ⟨2, ![128, 768]⟩
abbrev S2x1024x1x768 : Shape := ⟨4, ![2, 1024, 1, 768]⟩
abbrev S1024x768 : Shape := ⟨2, ![1024, 768]⟩
abbrev S2 : Shape := ⟨1, ![2]⟩
abbrev S_ : Shape := ⟨0, ![]⟩
abbrev S1 : Shape := ⟨1, ![1]⟩
abbrev S1x1x1x768 : Shape := ⟨4, ![1, 1, 1, 768]⟩
abbrev S1x768 : Shape := ⟨2, ![1, 768]⟩
abbrev S1x1x768 : Shape := ⟨3, ![1, 1, 768]⟩
abbrev S1x1024x1x768 : Shape := ⟨4, ![1, 1024, 1, 768]⟩
abbrev S1024x1x768 : Shape := ⟨3, ![1024, 1, 768]⟩
abbrev S128x8x768 : Shape := ⟨3, ![128, 8, 768]⟩
abbrev S128x1x768 : Shape := ⟨3, ![128, 1, 768]⟩
abbrev S128x8 : Shape := ⟨2, ![128, 8]⟩
abbrev S128 : Shape := ⟨1, ![128]⟩
abbrev S128x1 : Shape := ⟨2, ![128, 1]⟩
abbrev S128x8x1 : Shape := ⟨3, ![128, 8, 1]⟩

abbrev nBuf : Space → Nat
  | .hbm => 8
  | .vmem => 7
  | .smem => 1
  | _ => 0

abbrev bufTy : (tb : Table) → Fin (tcTables nBuf tb) → BufTy
  | .hbm, ⟨0, _⟩ => ⟨S32x256x768, .f32⟩
  | .hbm, ⟨1, _⟩ => ⟨S32x256x8, .i32⟩
  | .hbm, ⟨2, _⟩ => ⟨S50000x768, .f32⟩
  | .hbm, ⟨3, _⟩ => ⟨S768x768, .f32⟩
  | .hbm, ⟨4, _⟩ => ⟨S8192x768, .f32⟩
  | .hbm, ⟨5, _⟩ => ⟨S50000x1x768, .f32⟩
  | .hbm, ⟨6, _⟩ => ⟨S8192x768, .f32⟩
  | .hbm, ⟨7, _⟩ => ⟨S32x256x768, .f32⟩
  | .local _ .vmem, ⟨0, _⟩ => ⟨S128x768, .f32⟩
  | .local _ .vmem, ⟨1, _⟩ => ⟨S128x768, .f32⟩
  | .local _ .vmem, ⟨2, _⟩ => ⟨S768x768, .f32⟩
  | .local _ .vmem, ⟨3, _⟩ => ⟨S128x768, .f32⟩
  | .local _ .vmem, ⟨4, _⟩ => ⟨S128x768, .f32⟩
  | .local _ .vmem, ⟨5, _⟩ => ⟨S2x1024x1x768, .f32⟩
  | .local _ .vmem, ⟨6, _⟩ => ⟨S1024x768, .f32⟩
  | .local _ .smem, ⟨0, _⟩ => ⟨S65536, .i32⟩
  | _, _ => ⟨S32x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 32], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_0 : BitVec 32 := 0#32
  let v5 : BitVec 1 := Scalar.cmpi .ne v4 c0_i32_0
  v5

@[reducible] def k0_t1_loop : Scf.Loop 32 :=
  let c0_i32_26 : BitVec 32 := 0#32
  let c64_i32 : BitVec 32 := 64#32
  let v50 : BitVec 32 := Scalar.addi c0_i32_26 c64_i32
  let c1_i32_27 : BitVec 32 := 1#32
  ⟨c0_i32_26, v50, c1_i32_27⟩
def k0_off1 (i : grid0.Coords) (k0_t1 : Fin k0_t1_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1024_i32 : BitVec 32 := 1024#32
  let v49 : BitVec 32 := Scalar.muli v1 c1024_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let v52 : BitVec 32 := Scalar.addi v49 v51
  let c0_i32_29 : BitVec 32 := 0#32
  let v53 : BitVec 32 := Scalar.addi v52 c0_i32_29
  let v54 : Index := Scalar.indexCast v53
  ![v54.toNat]
def k0_off2 (i : grid0.Coords) : Fin 1 → Nat :=
  let arg1 : BitVec 32 := BitVec.ofNat 32 (i 1).val
  let c2_i32 : BitVec 32 := 2#32
  let v2 : BitVec 32 := Scalar.remsi arg1 c2_i32
  ![v2.toNat]
def k0_off3 (i : grid0.Coords) (k0_t1 : Fin k0_t1_loop.trips) : Fin 4 → Nat :=
  let arg1 : BitVec 32 := BitVec.ofNat 32 (i 1).val
  let c2_i32 : BitVec 32 := 2#32
  let v2 : BitVec 32 := Scalar.remsi arg1 c2_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let c0_i32_30 : BitVec 32 := 0#32
  let v56 : BitVec 32 := Scalar.addi v51 c0_i32_30
  let c0_i32_31 : BitVec 32 := 0#32
  let c0_i32_32 : BitVec 32 := 0#32
  ![v2.toNat, v56.toNat, 0, 0]
def k0_off4 (v55 : BitVec 32) : Fin 3 → Nat :=
  let c0_i32_33 : BitVec 32 := 0#32
  let c0_i32_34 : BitVec 32 := 0#32
  ![v55.toNat, 0, 0]

def k0_chk1 (i : grid0.Coords) (v55 : BitVec 32) : Prop :=
  (∀ (k0_h1 : k0_cond1 i = 1#1), ∀ a, (k0_off4 v55) a + S1x1x768.size a ≤ S50000x1x768.size a)
theorem k0_off4_inb : ∀ (i : grid0.Coords) (v55 : BitVec 32) (k0_hw1 : k0_chk1 i v55), ∀ (k0_h1 : k0_cond1 i = 1#1), ∀ a, (k0_off4 v55) a + S1x1x768.size a ≤ S50000x1x768.size a := fun i v55 k0_hw1 k0_h1 => k0_hw1 k0_h1

def k0_off5 (i : grid0.Coords) (k0_t1 : Fin k0_t1_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1024_i32 : BitVec 32 := 1024#32
  let v49 : BitVec 32 := Scalar.muli v1 c1024_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let v63 : BitVec 32 := Scalar.addi v49 v51
  let c1_i32_35 : BitVec 32 := 1#32
  let v64 : BitVec 32 := Scalar.addi v63 c1_i32_35
  let v65 : Index := Scalar.indexCast v64
  ![v65.toNat]
def k0_off6 (i : grid0.Coords) : Fin 1 → Nat :=
  let arg1 : BitVec 32 := BitVec.ofNat 32 (i 1).val
  let c2_i32 : BitVec 32 := 2#32
  let v2 : BitVec 32 := Scalar.remsi arg1 c2_i32
  ![v2.toNat]
def k0_off7 (i : grid0.Coords) (k0_t1 : Fin k0_t1_loop.trips) : Fin 4 → Nat :=
  let arg1 : BitVec 32 := BitVec.ofNat 32 (i 1).val
  let c2_i32 : BitVec 32 := 2#32
  let v2 : BitVec 32 := Scalar.remsi arg1 c2_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let c1_i32_36 : BitVec 32 := 1#32
  let v67 : BitVec 32 := Scalar.addi v51 c1_i32_36
  let c0_i32_37 : BitVec 32 := 0#32
  let c0_i32_38 : BitVec 32 := 0#32
  ![v2.toNat, v67.toNat, 0, 0]
def k0_off8 (v66 : BitVec 32) : Fin 3 → Nat :=
  let c0_i32_39 : BitVec 32 := 0#32
  let c0_i32_40 : BitVec 32 := 0#32
  ![v66.toNat, 0, 0]

def k0_chk2 (i : grid0.Coords) (v66 : BitVec 32) : Prop :=
  (∀ (k0_h1 : k0_cond1 i = 1#1), ∀ a, (k0_off8 v66) a + S1x1x768.size a ≤ S50000x1x768.size a)
theorem k0_off8_inb : ∀ (i : grid0.Coords) (v66 : BitVec 32) (k0_hw2 : k0_chk2 i v66), ∀ (k0_h1 : k0_cond1 i = 1#1), ∀ a, (k0_off8 v66) a + S1x1x768.size a ≤ S50000x1x768.size a := fun i v66 k0_hw2 k0_h1 => k0_hw2 k0_h1

def k0_off9 (i : grid0.Coords) (k0_t1 : Fin k0_t1_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1024_i32 : BitVec 32 := 1024#32
  let v49 : BitVec 32 := Scalar.muli v1 c1024_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let v74 : BitVec 32 := Scalar.addi v49 v51
  let c2_i32_41 : BitVec 32 := 2#32
  let v75 : BitVec 32 := Scalar.addi v74 c2_i32_41
  let v76 : Index := Scalar.indexCast v75
  ![v76.toNat]
def k0_off10 (i : grid0.Coords) : Fin 1 → Nat :=
  let arg1 : BitVec 32 := BitVec.ofNat 32 (i 1).val
  let c2_i32 : BitVec 32 := 2#32
  let v2 : BitVec 32 := Scalar.remsi arg1 c2_i32
  ![v2.toNat]
def k0_off11 (i : grid0.Coords) (k0_t1 : Fin k0_t1_loop.trips) : Fin 4 → Nat :=
  let arg1 : BitVec 32 := BitVec.ofNat 32 (i 1).val
  let c2_i32 : BitVec 32 := 2#32
  let v2 : BitVec 32 := Scalar.remsi arg1 c2_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let c2_i32_42 : BitVec 32 := 2#32
  let v78 : BitVec 32 := Scalar.addi v51 c2_i32_42
  let c0_i32_43 : BitVec 32 := 0#32
  let c0_i32_44 : BitVec 32 := 0#32
  ![v2.toNat, v78.toNat, 0, 0]
def k0_off12 (v77 : BitVec 32) : Fin 3 → Nat :=
  let c0_i32_45 : BitVec 32 := 0#32
  let c0_i32_46 : BitVec 32 := 0#32
  ![v77.toNat, 0, 0]

def k0_chk3 (i : grid0.Coords) (v77 : BitVec 32) : Prop :=
  (∀ (k0_h1 : k0_cond1 i = 1#1), ∀ a, (k0_off12 v77) a + S1x1x768.size a ≤ S50000x1x768.size a)
theorem k0_off12_inb : ∀ (i : grid0.Coords) (v77 : BitVec 32) (k0_hw3 : k0_chk3 i v77), ∀ (k0_h1 : k0_cond1 i = 1#1), ∀ a, (k0_off12 v77) a + S1x1x768.size a ≤ S50000x1x768.size a := fun i v77 k0_hw3 k0_h1 => k0_hw3 k0_h1

def k0_off13 (i : grid0.Coords) (k0_t1 : Fin k0_t1_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1024_i32 : BitVec 32 := 1024#32
  let v49 : BitVec 32 := Scalar.muli v1 c1024_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let v85 : BitVec 32 := Scalar.addi v49 v51
  let c3_i32 : BitVec 32 := 3#32
  let v86 : BitVec 32 := Scalar.addi v85 c3_i32
  let v87 : Index := Scalar.indexCast v86
  ![v87.toNat]
def k0_off14 (i : grid0.Coords) : Fin 1 → Nat :=
  let arg1 : BitVec 32 := BitVec.ofNat 32 (i 1).val
  let c2_i32 : BitVec 32 := 2#32
  let v2 : BitVec 32 := Scalar.remsi arg1 c2_i32
  ![v2.toNat]
def k0_off15 (i : grid0.Coords) (k0_t1 : Fin k0_t1_loop.trips) : Fin 4 → Nat :=
  let arg1 : BitVec 32 := BitVec.ofNat 32 (i 1).val
  let c2_i32 : BitVec 32 := 2#32
  let v2 : BitVec 32 := Scalar.remsi arg1 c2_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let c3_i32_47 : BitVec 32 := 3#32
  let v89 : BitVec 32 := Scalar.addi v51 c3_i32_47
  let c0_i32_48 : BitVec 32 := 0#32
  let c0_i32_49 : BitVec 32 := 0#32
  ![v2.toNat, v89.toNat, 0, 0]
def k0_off16 (v88 : BitVec 32) : Fin 3 → Nat :=
  let c0_i32_50 : BitVec 32 := 0#32
  let c0_i32_51 : BitVec 32 := 0#32
  ![v88.toNat, 0, 0]

def k0_chk4 (i : grid0.Coords) (v88 : BitVec 32) : Prop :=
  (∀ (k0_h1 : k0_cond1 i = 1#1), ∀ a, (k0_off16 v88) a + S1x1x768.size a ≤ S50000x1x768.size a)
theorem k0_off16_inb : ∀ (i : grid0.Coords) (v88 : BitVec 32) (k0_hw4 : k0_chk4 i v88), ∀ (k0_h1 : k0_cond1 i = 1#1), ∀ a, (k0_off16 v88) a + S1x1x768.size a ≤ S50000x1x768.size a := fun i v88 k0_hw4 k0_h1 => k0_hw4 k0_h1

def k0_off17 (i : grid0.Coords) (k0_t1 : Fin k0_t1_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1024_i32 : BitVec 32 := 1024#32
  let v49 : BitVec 32 := Scalar.muli v1 c1024_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let v96 : BitVec 32 := Scalar.addi v49 v51
  let c4_i32 : BitVec 32 := 4#32
  let v97 : BitVec 32 := Scalar.addi v96 c4_i32
  let v98 : Index := Scalar.indexCast v97
  ![v98.toNat]
def k0_off18 (i : grid0.Coords) : Fin 1 → Nat :=
  let arg1 : BitVec 32 := BitVec.ofNat 32 (i 1).val
  let c2_i32 : BitVec 32 := 2#32
  let v2 : BitVec 32 := Scalar.remsi arg1 c2_i32
  ![v2.toNat]
def k0_off19 (i : grid0.Coords) (k0_t1 : Fin k0_t1_loop.trips) : Fin 4 → Nat :=
  let arg1 : BitVec 32 := BitVec.ofNat 32 (i 1).val
  let c2_i32 : BitVec 32 := 2#32
  let v2 : BitVec 32 := Scalar.remsi arg1 c2_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let c4_i32_52 : BitVec 32 := 4#32
  let v100 : BitVec 32 := Scalar.addi v51 c4_i32_52
  let c0_i32_53 : BitVec 32 := 0#32
  let c0_i32_54 : BitVec 32 := 0#32
  ![v2.toNat, v100.toNat, 0, 0]
def k0_off20 (v99 : BitVec 32) : Fin 3 → Nat :=
  let c0_i32_55 : BitVec 32 := 0#32
  let c0_i32_56 : BitVec 32 := 0#32
  ![v99.toNat, 0, 0]

def k0_chk5 (i : grid0.Coords) (v99 : BitVec 32) : Prop :=
  (∀ (k0_h1 : k0_cond1 i = 1#1), ∀ a, (k0_off20 v99) a + S1x1x768.size a ≤ S50000x1x768.size a)
theorem k0_off20_inb : ∀ (i : grid0.Coords) (v99 : BitVec 32) (k0_hw5 : k0_chk5 i v99), ∀ (k0_h1 : k0_cond1 i = 1#1), ∀ a, (k0_off20 v99) a + S1x1x768.size a ≤ S50000x1x768.size a := fun i v99 k0_hw5 k0_h1 => k0_hw5 k0_h1

def k0_off21 (i : grid0.Coords) (k0_t1 : Fin k0_t1_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1024_i32 : BitVec 32 := 1024#32
  let v49 : BitVec 32 := Scalar.muli v1 c1024_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let v107 : BitVec 32 := Scalar.addi v49 v51
  let c5_i32 : BitVec 32 := 5#32
  let v108 : BitVec 32 := Scalar.addi v107 c5_i32
  let v109 : Index := Scalar.indexCast v108
  ![v109.toNat]
def k0_off22 (i : grid0.Coords) : Fin 1 → Nat :=
  let arg1 : BitVec 32 := BitVec.ofNat 32 (i 1).val
  let c2_i32 : BitVec 32 := 2#32
  let v2 : BitVec 32 := Scalar.remsi arg1 c2_i32
  ![v2.toNat]
def k0_off23 (i : grid0.Coords) (k0_t1 : Fin k0_t1_loop.trips) : Fin 4 → Nat :=
  let arg1 : BitVec 32 := BitVec.ofNat 32 (i 1).val
  let c2_i32 : BitVec 32 := 2#32
  let v2 : BitVec 32 := Scalar.remsi arg1 c2_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let c5_i32_57 : BitVec 32 := 5#32
  let v111 : BitVec 32 := Scalar.addi v51 c5_i32_57
  let c0_i32_58 : BitVec 32 := 0#32
  let c0_i32_59 : BitVec 32 := 0#32
  ![v2.toNat, v111.toNat, 0, 0]
def k0_off24 (v110 : BitVec 32) : Fin 3 → Nat :=
  let c0_i32_60 : BitVec 32 := 0#32
  let c0_i32_61 : BitVec 32 := 0#32
  ![v110.toNat, 0, 0]

def k0_chk6 (i : grid0.Coords) (v110 : BitVec 32) : Prop :=
  (∀ (k0_h1 : k0_cond1 i = 1#1), ∀ a, (k0_off24 v110) a + S1x1x768.size a ≤ S50000x1x768.size a)
theorem k0_off24_inb : ∀ (i : grid0.Coords) (v110 : BitVec 32) (k0_hw6 : k0_chk6 i v110), ∀ (k0_h1 : k0_cond1 i = 1#1), ∀ a, (k0_off24 v110) a + S1x1x768.size a ≤ S50000x1x768.size a := fun i v110 k0_hw6 k0_h1 => k0_hw6 k0_h1

def k0_off25 (i : grid0.Coords) (k0_t1 : Fin k0_t1_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1024_i32 : BitVec 32 := 1024#32
  let v49 : BitVec 32 := Scalar.muli v1 c1024_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let v118 : BitVec 32 := Scalar.addi v49 v51
  let c6_i32 : BitVec 32 := 6#32
  let v119 : BitVec 32 := Scalar.addi v118 c6_i32
  let v120 : Index := Scalar.indexCast v119
  ![v120.toNat]
def k0_off26 (i : grid0.Coords) : Fin 1 → Nat :=
  let arg1 : BitVec 32 := BitVec.ofNat 32 (i 1).val
  let c2_i32 : BitVec 32 := 2#32
  let v2 : BitVec 32 := Scalar.remsi arg1 c2_i32
  ![v2.toNat]
def k0_off27 (i : grid0.Coords) (k0_t1 : Fin k0_t1_loop.trips) : Fin 4 → Nat :=
  let arg1 : BitVec 32 := BitVec.ofNat 32 (i 1).val
  let c2_i32 : BitVec 32 := 2#32
  let v2 : BitVec 32 := Scalar.remsi arg1 c2_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let c6_i32_62 : BitVec 32 := 6#32
  let v122 : BitVec 32 := Scalar.addi v51 c6_i32_62
  let c0_i32_63 : BitVec 32 := 0#32
  let c0_i32_64 : BitVec 32 := 0#32
  ![v2.toNat, v122.toNat, 0, 0]
def k0_off28 (v121 : BitVec 32) : Fin 3 → Nat :=
  let c0_i32_65 : BitVec 32 := 0#32
  let c0_i32_66 : BitVec 32 := 0#32
  ![v121.toNat, 0, 0]

def k0_chk7 (i : grid0.Coords) (v121 : BitVec 32) : Prop :=
  (∀ (k0_h1 : k0_cond1 i = 1#1), ∀ a, (k0_off28 v121) a + S1x1x768.size a ≤ S50000x1x768.size a)
theorem k0_off28_inb : ∀ (i : grid0.Coords) (v121 : BitVec 32) (k0_hw7 : k0_chk7 i v121), ∀ (k0_h1 : k0_cond1 i = 1#1), ∀ a, (k0_off28 v121) a + S1x1x768.size a ≤ S50000x1x768.size a := fun i v121 k0_hw7 k0_h1 => k0_hw7 k0_h1

def k0_off29 (i : grid0.Coords) (k0_t1 : Fin k0_t1_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1024_i32 : BitVec 32 := 1024#32
  let v49 : BitVec 32 := Scalar.muli v1 c1024_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let v129 : BitVec 32 := Scalar.addi v49 v51
  let c7_i32 : BitVec 32 := 7#32
  let v130 : BitVec 32 := Scalar.addi v129 c7_i32
  let v131 : Index := Scalar.indexCast v130
  ![v131.toNat]
def k0_off30 (i : grid0.Coords) : Fin 1 → Nat :=
  let arg1 : BitVec 32 := BitVec.ofNat 32 (i 1).val
  let c2_i32 : BitVec 32 := 2#32
  let v2 : BitVec 32 := Scalar.remsi arg1 c2_i32
  ![v2.toNat]
def k0_off31 (i : grid0.Coords) (k0_t1 : Fin k0_t1_loop.trips) : Fin 4 → Nat :=
  let arg1 : BitVec 32 := BitVec.ofNat 32 (i 1).val
  let c2_i32 : BitVec 32 := 2#32
  let v2 : BitVec 32 := Scalar.remsi arg1 c2_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let c7_i32_67 : BitVec 32 := 7#32
  let v133 : BitVec 32 := Scalar.addi v51 c7_i32_67
  let c0_i32_68 : BitVec 32 := 0#32
  let c0_i32_69 : BitVec 32 := 0#32
  ![v2.toNat, v133.toNat, 0, 0]
def k0_off32 (v132 : BitVec 32) : Fin 3 → Nat :=
  let c0_i32_70 : BitVec 32 := 0#32
  let c0_i32_71 : BitVec 32 := 0#32
  ![v132.toNat, 0, 0]

def k0_chk8 (i : grid0.Coords) (v132 : BitVec 32) : Prop :=
  (∀ (k0_h1 : k0_cond1 i = 1#1), ∀ a, (k0_off32 v132) a + S1x1x768.size a ≤ S50000x1x768.size a)
theorem k0_off32_inb : ∀ (i : grid0.Coords) (v132 : BitVec 32) (k0_hw8 : k0_chk8 i v132), ∀ (k0_h1 : k0_cond1 i = 1#1), ∀ a, (k0_off32 v132) a + S1x1x768.size a ≤ S50000x1x768.size a := fun i v132 k0_hw8 k0_h1 => k0_hw8 k0_h1

def k0_off33 (i : grid0.Coords) (k0_t1 : Fin k0_t1_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1024_i32 : BitVec 32 := 1024#32
  let v49 : BitVec 32 := Scalar.muli v1 c1024_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let v140 : BitVec 32 := Scalar.addi v49 v51
  let c8_i32 : BitVec 32 := 8#32
  let v141 : BitVec 32 := Scalar.addi v140 c8_i32
  let v142 : Index := Scalar.indexCast v141
  ![v142.toNat]
def k0_off34 (i : grid0.Coords) : Fin 1 → Nat :=
  let arg1 : BitVec 32 := BitVec.ofNat 32 (i 1).val
  let c2_i32 : BitVec 32 := 2#32
  let v2 : BitVec 32 := Scalar.remsi arg1 c2_i32
  ![v2.toNat]
def k0_off35 (i : grid0.Coords) (k0_t1 : Fin k0_t1_loop.trips) : Fin 4 → Nat :=
  let arg1 : BitVec 32 := BitVec.ofNat 32 (i 1).val
  let c2_i32 : BitVec 32 := 2#32
  let v2 : BitVec 32 := Scalar.remsi arg1 c2_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let c8_i32_72 : BitVec 32 := 8#32
  let v144 : BitVec 32 := Scalar.addi v51 c8_i32_72
  let c0_i32_73 : BitVec 32 := 0#32
  let c0_i32_74 : BitVec 32 := 0#32
  ![v2.toNat, v144.toNat, 0, 0]
def k0_off36 (v143 : BitVec 32) : Fin 3 → Nat :=
  let c0_i32_75 : BitVec 32 := 0#32
  let c0_i32_76 : BitVec 32 := 0#32
  ![v143.toNat, 0, 0]

def k0_chk9 (i : grid0.Coords) (v143 : BitVec 32) : Prop :=
  (∀ (k0_h1 : k0_cond1 i = 1#1), ∀ a, (k0_off36 v143) a + S1x1x768.size a ≤ S50000x1x768.size a)
theorem k0_off36_inb : ∀ (i : grid0.Coords) (v143 : BitVec 32) (k0_hw9 : k0_chk9 i v143), ∀ (k0_h1 : k0_cond1 i = 1#1), ∀ a, (k0_off36 v143) a + S1x1x768.size a ≤ S50000x1x768.size a := fun i v143 k0_hw9 k0_h1 => k0_hw9 k0_h1

def k0_off37 (i : grid0.Coords) (k0_t1 : Fin k0_t1_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1024_i32 : BitVec 32 := 1024#32
  let v49 : BitVec 32 := Scalar.muli v1 c1024_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let v151 : BitVec 32 := Scalar.addi v49 v51
  let c9_i32 : BitVec 32 := 9#32
  let v152 : BitVec 32 := Scalar.addi v151 c9_i32
  let v153 : Index := Scalar.indexCast v152
  ![v153.toNat]
def k0_off38 (i : grid0.Coords) : Fin 1 → Nat :=
  let arg1 : BitVec 32 := BitVec.ofNat 32 (i 1).val
  let c2_i32 : BitVec 32 := 2#32
  let v2 : BitVec 32 := Scalar.remsi arg1 c2_i32
  ![v2.toNat]
def k0_off39 (i : grid0.Coords) (k0_t1 : Fin k0_t1_loop.trips) : Fin 4 → Nat :=
  let arg1 : BitVec 32 := BitVec.ofNat 32 (i 1).val
  let c2_i32 : BitVec 32 := 2#32
  let v2 : BitVec 32 := Scalar.remsi arg1 c2_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let c9_i32_77 : BitVec 32 := 9#32
  let v155 : BitVec 32 := Scalar.addi v51 c9_i32_77
  let c0_i32_78 : BitVec 32 := 0#32
  let c0_i32_79 : BitVec 32 := 0#32
  ![v2.toNat, v155.toNat, 0, 0]
def k0_off40 (v154 : BitVec 32) : Fin 3 → Nat :=
  let c0_i32_80 : BitVec 32 := 0#32
  let c0_i32_81 : BitVec 32 := 0#32
  ![v154.toNat, 0, 0]

def k0_chk10 (i : grid0.Coords) (v154 : BitVec 32) : Prop :=
  (∀ (k0_h1 : k0_cond1 i = 1#1), ∀ a, (k0_off40 v154) a + S1x1x768.size a ≤ S50000x1x768.size a)
theorem k0_off40_inb : ∀ (i : grid0.Coords) (v154 : BitVec 32) (k0_hw10 : k0_chk10 i v154), ∀ (k0_h1 : k0_cond1 i = 1#1), ∀ a, (k0_off40 v154) a + S1x1x768.size a ≤ S50000x1x768.size a := fun i v154 k0_hw10 k0_h1 => k0_hw10 k0_h1

def k0_off41 (i : grid0.Coords) (k0_t1 : Fin k0_t1_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1024_i32 : BitVec 32 := 1024#32
  let v49 : BitVec 32 := Scalar.muli v1 c1024_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let v162 : BitVec 32 := Scalar.addi v49 v51
  let c10_i32 : BitVec 32 := 10#32
  let v163 : BitVec 32 := Scalar.addi v162 c10_i32
  let v164 : Index := Scalar.indexCast v163
  ![v164.toNat]
def k0_off42 (i : grid0.Coords) : Fin 1 → Nat :=
  let arg1 : BitVec 32 := BitVec.ofNat 32 (i 1).val
  let c2_i32 : BitVec 32 := 2#32
  let v2 : BitVec 32 := Scalar.remsi arg1 c2_i32
  ![v2.toNat]
def k0_off43 (i : grid0.Coords) (k0_t1 : Fin k0_t1_loop.trips) : Fin 4 → Nat :=
  let arg1 : BitVec 32 := BitVec.ofNat 32 (i 1).val
  let c2_i32 : BitVec 32 := 2#32
  let v2 : BitVec 32 := Scalar.remsi arg1 c2_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let c10_i32_82 : BitVec 32 := 10#32
  let v166 : BitVec 32 := Scalar.addi v51 c10_i32_82
  let c0_i32_83 : BitVec 32 := 0#32
  let c0_i32_84 : BitVec 32 := 0#32
  ![v2.toNat, v166.toNat, 0, 0]
def k0_off44 (v165 : BitVec 32) : Fin 3 → Nat :=
  let c0_i32_85 : BitVec 32 := 0#32
  let c0_i32_86 : BitVec 32 := 0#32
  ![v165.toNat, 0, 0]

def k0_chk11 (i : grid0.Coords) (v165 : BitVec 32) : Prop :=
  (∀ (k0_h1 : k0_cond1 i = 1#1), ∀ a, (k0_off44 v165) a + S1x1x768.size a ≤ S50000x1x768.size a)
theorem k0_off44_inb : ∀ (i : grid0.Coords) (v165 : BitVec 32) (k0_hw11 : k0_chk11 i v165), ∀ (k0_h1 : k0_cond1 i = 1#1), ∀ a, (k0_off44 v165) a + S1x1x768.size a ≤ S50000x1x768.size a := fun i v165 k0_hw11 k0_h1 => k0_hw11 k0_h1

def k0_off45 (i : grid0.Coords) (k0_t1 : Fin k0_t1_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1024_i32 : BitVec 32 := 1024#32
  let v49 : BitVec 32 := Scalar.muli v1 c1024_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let v173 : BitVec 32 := Scalar.addi v49 v51
  let c11_i32 : BitVec 32 := 11#32
  let v174 : BitVec 32 := Scalar.addi v173 c11_i32
  let v175 : Index := Scalar.indexCast v174
  ![v175.toNat]
def k0_off46 (i : grid0.Coords) : Fin 1 → Nat :=
  let arg1 : BitVec 32 := BitVec.ofNat 32 (i 1).val
  let c2_i32 : BitVec 32 := 2#32
  let v2 : BitVec 32 := Scalar.remsi arg1 c2_i32
  ![v2.toNat]
def k0_off47 (i : grid0.Coords) (k0_t1 : Fin k0_t1_loop.trips) : Fin 4 → Nat :=
  let arg1 : BitVec 32 := BitVec.ofNat 32 (i 1).val
  let c2_i32 : BitVec 32 := 2#32
  let v2 : BitVec 32 := Scalar.remsi arg1 c2_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let c11_i32_87 : BitVec 32 := 11#32
  let v177 : BitVec 32 := Scalar.addi v51 c11_i32_87
  let c0_i32_88 : BitVec 32 := 0#32
  let c0_i32_89 : BitVec 32 := 0#32
  ![v2.toNat, v177.toNat, 0, 0]
def k0_off48 (v176 : BitVec 32) : Fin 3 → Nat :=
  let c0_i32_90 : BitVec 32 := 0#32
  let c0_i32_91 : BitVec 32 := 0#32
  ![v176.toNat, 0, 0]

def k0_chk12 (i : grid0.Coords) (v176 : BitVec 32) : Prop :=
  (∀ (k0_h1 : k0_cond1 i = 1#1), ∀ a, (k0_off48 v176) a + S1x1x768.size a ≤ S50000x1x768.size a)
theorem k0_off48_inb : ∀ (i : grid0.Coords) (v176 : BitVec 32) (k0_hw12 : k0_chk12 i v176), ∀ (k0_h1 : k0_cond1 i = 1#1), ∀ a, (k0_off48 v176) a + S1x1x768.size a ≤ S50000x1x768.size a := fun i v176 k0_hw12 k0_h1 => k0_hw12 k0_h1

def k0_off49 (i : grid0.Coords) (k0_t1 : Fin k0_t1_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1024_i32 : BitVec 32 := 1024#32
  let v49 : BitVec 32 := Scalar.muli v1 c1024_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let v184 : BitVec 32 := Scalar.addi v49 v51
  let c12_i32 : BitVec 32 := 12#32
  let v185 : BitVec 32 := Scalar.addi v184 c12_i32
  let v186 : Index := Scalar.indexCast v185
  ![v186.toNat]
def k0_off50 (i : grid0.Coords) : Fin 1 → Nat :=
  let arg1 : BitVec 32 := BitVec.ofNat 32 (i 1).val
  let c2_i32 : BitVec 32 := 2#32
  let v2 : BitVec 32 := Scalar.remsi arg1 c2_i32
  ![v2.toNat]
def k0_off51 (i : grid0.Coords) (k0_t1 : Fin k0_t1_loop.trips) : Fin 4 → Nat :=
  let arg1 : BitVec 32 := BitVec.ofNat 32 (i 1).val
  let c2_i32 : BitVec 32 := 2#32
  let v2 : BitVec 32 := Scalar.remsi arg1 c2_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let c12_i32_92 : BitVec 32 := 12#32
  let v188 : BitVec 32 := Scalar.addi v51 c12_i32_92
  let c0_i32_93 : BitVec 32 := 0#32
  let c0_i32_94 : BitVec 32 := 0#32
  ![v2.toNat, v188.toNat, 0, 0]
def k0_off52 (v187 : BitVec 32) : Fin 3 → Nat :=
  let c0_i32_95 : BitVec 32 := 0#32
  let c0_i32_96 : BitVec 32 := 0#32
  ![v187.toNat, 0, 0]

def k0_chk13 (i : grid0.Coords) (v187 : BitVec 32) : Prop :=
  (∀ (k0_h1 : k0_cond1 i = 1#1), ∀ a, (k0_off52 v187) a + S1x1x768.size a ≤ S50000x1x768.size a)
theorem k0_off52_inb : ∀ (i : grid0.Coords) (v187 : BitVec 32) (k0_hw13 : k0_chk13 i v187), ∀ (k0_h1 : k0_cond1 i = 1#1), ∀ a, (k0_off52 v187) a + S1x1x768.size a ≤ S50000x1x768.size a := fun i v187 k0_hw13 k0_h1 => k0_hw13 k0_h1

def k0_off53 (i : grid0.Coords) (k0_t1 : Fin k0_t1_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1024_i32 : BitVec 32 := 1024#32
  let v49 : BitVec 32 := Scalar.muli v1 c1024_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let v195 : BitVec 32 := Scalar.addi v49 v51
  let c13_i32 : BitVec 32 := 13#32
  let v196 : BitVec 32 := Scalar.addi v195 c13_i32
  let v197 : Index := Scalar.indexCast v196
  ![v197.toNat]
def k0_off54 (i : grid0.Coords) : Fin 1 → Nat :=
  let arg1 : BitVec 32 := BitVec.ofNat 32 (i 1).val
  let c2_i32 : BitVec 32 := 2#32
  let v2 : BitVec 32 := Scalar.remsi arg1 c2_i32
  ![v2.toNat]
def k0_off55 (i : grid0.Coords) (k0_t1 : Fin k0_t1_loop.trips) : Fin 4 → Nat :=
  let arg1 : BitVec 32 := BitVec.ofNat 32 (i 1).val
  let c2_i32 : BitVec 32 := 2#32
  let v2 : BitVec 32 := Scalar.remsi arg1 c2_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let c13_i32_97 : BitVec 32 := 13#32
  let v199 : BitVec 32 := Scalar.addi v51 c13_i32_97
  let c0_i32_98 : BitVec 32 := 0#32
  let c0_i32_99 : BitVec 32 := 0#32
  ![v2.toNat, v199.toNat, 0, 0]
def k0_off56 (v198 : BitVec 32) : Fin 3 → Nat :=
  let c0_i32_100 : BitVec 32 := 0#32
  let c0_i32_101 : BitVec 32 := 0#32
  ![v198.toNat, 0, 0]

def k0_chk14 (i : grid0.Coords) (v198 : BitVec 32) : Prop :=
  (∀ (k0_h1 : k0_cond1 i = 1#1), ∀ a, (k0_off56 v198) a + S1x1x768.size a ≤ S50000x1x768.size a)
theorem k0_off56_inb : ∀ (i : grid0.Coords) (v198 : BitVec 32) (k0_hw14 : k0_chk14 i v198), ∀ (k0_h1 : k0_cond1 i = 1#1), ∀ a, (k0_off56 v198) a + S1x1x768.size a ≤ S50000x1x768.size a := fun i v198 k0_hw14 k0_h1 => k0_hw14 k0_h1

def k0_off57 (i : grid0.Coords) (k0_t1 : Fin k0_t1_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1024_i32 : BitVec 32 := 1024#32
  let v49 : BitVec 32 := Scalar.muli v1 c1024_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let v206 : BitVec 32 := Scalar.addi v49 v51
  let c14_i32 : BitVec 32 := 14#32
  let v207 : BitVec 32 := Scalar.addi v206 c14_i32
  let v208 : Index := Scalar.indexCast v207
  ![v208.toNat]
def k0_off58 (i : grid0.Coords) : Fin 1 → Nat :=
  let arg1 : BitVec 32 := BitVec.ofNat 32 (i 1).val
  let c2_i32 : BitVec 32 := 2#32
  let v2 : BitVec 32 := Scalar.remsi arg1 c2_i32
  ![v2.toNat]
def k0_off59 (i : grid0.Coords) (k0_t1 : Fin k0_t1_loop.trips) : Fin 4 → Nat :=
  let arg1 : BitVec 32 := BitVec.ofNat 32 (i 1).val
  let c2_i32 : BitVec 32 := 2#32
  let v2 : BitVec 32 := Scalar.remsi arg1 c2_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let c14_i32_102 : BitVec 32 := 14#32
  let v210 : BitVec 32 := Scalar.addi v51 c14_i32_102
  let c0_i32_103 : BitVec 32 := 0#32
  let c0_i32_104 : BitVec 32 := 0#32
  ![v2.toNat, v210.toNat, 0, 0]
def k0_off60 (v209 : BitVec 32) : Fin 3 → Nat :=
  let c0_i32_105 : BitVec 32 := 0#32
  let c0_i32_106 : BitVec 32 := 0#32
  ![v209.toNat, 0, 0]

def k0_chk15 (i : grid0.Coords) (v209 : BitVec 32) : Prop :=
  (∀ (k0_h1 : k0_cond1 i = 1#1), ∀ a, (k0_off60 v209) a + S1x1x768.size a ≤ S50000x1x768.size a)
theorem k0_off60_inb : ∀ (i : grid0.Coords) (v209 : BitVec 32) (k0_hw15 : k0_chk15 i v209), ∀ (k0_h1 : k0_cond1 i = 1#1), ∀ a, (k0_off60 v209) a + S1x1x768.size a ≤ S50000x1x768.size a := fun i v209 k0_hw15 k0_h1 => k0_hw15 k0_h1

def k0_off61 (i : grid0.Coords) (k0_t1 : Fin k0_t1_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1024_i32 : BitVec 32 := 1024#32
  let v49 : BitVec 32 := Scalar.muli v1 c1024_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let v217 : BitVec 32 := Scalar.addi v49 v51
  let c15_i32 : BitVec 32 := 15#32
  let v218 : BitVec 32 := Scalar.addi v217 c15_i32
  let v219 : Index := Scalar.indexCast v218
  ![v219.toNat]
def k0_off62 (i : grid0.Coords) : Fin 1 → Nat :=
  let arg1 : BitVec 32 := BitVec.ofNat 32 (i 1).val
  let c2_i32 : BitVec 32 := 2#32
  let v2 : BitVec 32 := Scalar.remsi arg1 c2_i32
  ![v2.toNat]
def k0_off63 (i : grid0.Coords) (k0_t1 : Fin k0_t1_loop.trips) : Fin 4 → Nat :=
  let arg1 : BitVec 32 := BitVec.ofNat 32 (i 1).val
  let c2_i32 : BitVec 32 := 2#32
  let v2 : BitVec 32 := Scalar.remsi arg1 c2_i32
  let c0_i32_26 : BitVec 32 := 0#32
  let c1_i32_27 : BitVec 32 := 1#32
  let arg11 : BitVec 32 := Scf.iv c0_i32_26 c1_i32_27 k0_t1
  let c16_i32 : BitVec 32 := 16#32
  let v51 : BitVec 32 := Scalar.muli arg11 c16_i32
  let c15_i32_107 : BitVec 32 := 15#32
  let v221 : BitVec 32 := Scalar.addi v51 c15_i32_107
  let c0_i32_108 : BitVec 32 := 0#32
  let c0_i32_109 : BitVec 32 := 0#32
  ![v2.toNat, v221.toNat, 0, 0]
def k0_off64 (v220 : BitVec 32) : Fin 3 → Nat :=
  let c0_i32_110 : BitVec 32 := 0#32
  let c0_i32_111 : BitVec 32 := 0#32
  ![v220.toNat, 0, 0]

def k0_chk16 (i : grid0.Coords) (v220 : BitVec 32) : Prop :=
  (∀ (k0_h1 : k0_cond1 i = 1#1), ∀ a, (k0_off64 v220) a + S1x1x768.size a ≤ S50000x1x768.size a)
theorem k0_off64_inb : ∀ (i : grid0.Coords) (v220 : BitVec 32) (k0_hw16 : k0_chk16 i v220), ∀ (k0_h1 : k0_cond1 i = 1#1), ∀ a, (k0_off64 v220) a + S1x1x768.size a ≤ S50000x1x768.size a := fun i v220 k0_hw16 k0_h1 => k0_hw16 k0_h1

def k0_cond2 (i : grid0.Coords) : BitVec 1 :=
  let arg1 : BitVec 32 := BitVec.ofNat 32 (i 1).val
  let c1_i32 : BitVec 32 := 1#32
  let v6 : BitVec 32 := Scalar.addi arg1 c1_i32
  let c32_i32_1 : BitVec 32 := 32#32
  let v7 : BitVec 1 := Scalar.cmpi .slt v6 c32_i32_1
  let v8 : BitVec 32 := Scalar.extui v7
  let c0_i32_2 : BitVec 32 := 0#32
  let v9 : BitVec 1 := Scalar.cmpi .ne v8 c0_i32_2
  v9

@[reducible] def k0_t2_loop : Scf.Loop 32 :=
  let c0_i32_28 : BitVec 32 := 0#32
  let c64_i32 : BitVec 32 := 64#32
  let v52 : BitVec 32 := Scalar.addi c0_i32_28 c64_i32
  let c1_i32_29 : BitVec 32 := 1#32
  ⟨c0_i32_28, v52, c1_i32_29⟩
def k0_off65 (i : grid0.Coords) (k0_t2 : Fin k0_t2_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_26 : BitVec 32 := 1#32
  let v49 : BitVec 32 := Scalar.addi v1 c1_i32_26
  let c1024_i32 : BitVec 32 := 1024#32
  let v51 : BitVec 32 := Scalar.muli v49 c1024_i32
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let v54 : BitVec 32 := Scalar.addi v51 v53
  let c0_i32_31 : BitVec 32 := 0#32
  let v55 : BitVec 32 := Scalar.addi v54 c0_i32_31
  let v56 : Index := Scalar.indexCast v55
  ![v56.toNat]
def k0_off66 (i : grid0.Coords) : Fin 1 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  ![v50.toNat]
def k0_off67 (i : grid0.Coords) (k0_t2 : Fin k0_t2_loop.trips) : Fin 4 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let c0_i32_32 : BitVec 32 := 0#32
  let v58 : BitVec 32 := Scalar.addi v53 c0_i32_32
  let c0_i32_33 : BitVec 32 := 0#32
  let c0_i32_34 : BitVec 32 := 0#32
  ![v50.toNat, v58.toNat, 0, 0]
def k0_off68 (v57 : BitVec 32) : Fin 3 → Nat :=
  let c0_i32_35 : BitVec 32 := 0#32
  let c0_i32_36 : BitVec 32 := 0#32
  ![v57.toNat, 0, 0]

def k0_chk17 (i : grid0.Coords) (v57 : BitVec 32) : Prop :=
  (∀ (k0_h2 : k0_cond2 i = 1#1), ∀ a, (k0_off68 v57) a + S1x1x768.size a ≤ S50000x1x768.size a)
theorem k0_off68_inb : ∀ (i : grid0.Coords) (v57 : BitVec 32) (k0_hw17 : k0_chk17 i v57), ∀ (k0_h2 : k0_cond2 i = 1#1), ∀ a, (k0_off68 v57) a + S1x1x768.size a ≤ S50000x1x768.size a := fun i v57 k0_hw17 k0_h2 => k0_hw17 k0_h2

def k0_off69 (i : grid0.Coords) (k0_t2 : Fin k0_t2_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_26 : BitVec 32 := 1#32
  let v49 : BitVec 32 := Scalar.addi v1 c1_i32_26
  let c1024_i32 : BitVec 32 := 1024#32
  let v51 : BitVec 32 := Scalar.muli v49 c1024_i32
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let v65 : BitVec 32 := Scalar.addi v51 v53
  let c1_i32_37 : BitVec 32 := 1#32
  let v66 : BitVec 32 := Scalar.addi v65 c1_i32_37
  let v67 : Index := Scalar.indexCast v66
  ![v67.toNat]
def k0_off70 (i : grid0.Coords) : Fin 1 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  ![v50.toNat]
def k0_off71 (i : grid0.Coords) (k0_t2 : Fin k0_t2_loop.trips) : Fin 4 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let c1_i32_38 : BitVec 32 := 1#32
  let v69 : BitVec 32 := Scalar.addi v53 c1_i32_38
  let c0_i32_39 : BitVec 32 := 0#32
  let c0_i32_40 : BitVec 32 := 0#32
  ![v50.toNat, v69.toNat, 0, 0]
def k0_off72 (v68 : BitVec 32) : Fin 3 → Nat :=
  let c0_i32_41 : BitVec 32 := 0#32
  let c0_i32_42 : BitVec 32 := 0#32
  ![v68.toNat, 0, 0]

def k0_chk18 (i : grid0.Coords) (v68 : BitVec 32) : Prop :=
  (∀ (k0_h2 : k0_cond2 i = 1#1), ∀ a, (k0_off72 v68) a + S1x1x768.size a ≤ S50000x1x768.size a)
theorem k0_off72_inb : ∀ (i : grid0.Coords) (v68 : BitVec 32) (k0_hw18 : k0_chk18 i v68), ∀ (k0_h2 : k0_cond2 i = 1#1), ∀ a, (k0_off72 v68) a + S1x1x768.size a ≤ S50000x1x768.size a := fun i v68 k0_hw18 k0_h2 => k0_hw18 k0_h2

def k0_off73 (i : grid0.Coords) (k0_t2 : Fin k0_t2_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_26 : BitVec 32 := 1#32
  let v49 : BitVec 32 := Scalar.addi v1 c1_i32_26
  let c1024_i32 : BitVec 32 := 1024#32
  let v51 : BitVec 32 := Scalar.muli v49 c1024_i32
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let v76 : BitVec 32 := Scalar.addi v51 v53
  let c2_i32_43 : BitVec 32 := 2#32
  let v77 : BitVec 32 := Scalar.addi v76 c2_i32_43
  let v78 : Index := Scalar.indexCast v77
  ![v78.toNat]
def k0_off74 (i : grid0.Coords) : Fin 1 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  ![v50.toNat]
def k0_off75 (i : grid0.Coords) (k0_t2 : Fin k0_t2_loop.trips) : Fin 4 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let c2_i32_44 : BitVec 32 := 2#32
  let v80 : BitVec 32 := Scalar.addi v53 c2_i32_44
  let c0_i32_45 : BitVec 32 := 0#32
  let c0_i32_46 : BitVec 32 := 0#32
  ![v50.toNat, v80.toNat, 0, 0]
def k0_off76 (v79 : BitVec 32) : Fin 3 → Nat :=
  let c0_i32_47 : BitVec 32 := 0#32
  let c0_i32_48 : BitVec 32 := 0#32
  ![v79.toNat, 0, 0]

def k0_chk19 (i : grid0.Coords) (v79 : BitVec 32) : Prop :=
  (∀ (k0_h2 : k0_cond2 i = 1#1), ∀ a, (k0_off76 v79) a + S1x1x768.size a ≤ S50000x1x768.size a)
theorem k0_off76_inb : ∀ (i : grid0.Coords) (v79 : BitVec 32) (k0_hw19 : k0_chk19 i v79), ∀ (k0_h2 : k0_cond2 i = 1#1), ∀ a, (k0_off76 v79) a + S1x1x768.size a ≤ S50000x1x768.size a := fun i v79 k0_hw19 k0_h2 => k0_hw19 k0_h2

def k0_off77 (i : grid0.Coords) (k0_t2 : Fin k0_t2_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_26 : BitVec 32 := 1#32
  let v49 : BitVec 32 := Scalar.addi v1 c1_i32_26
  let c1024_i32 : BitVec 32 := 1024#32
  let v51 : BitVec 32 := Scalar.muli v49 c1024_i32
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let v87 : BitVec 32 := Scalar.addi v51 v53
  let c3_i32 : BitVec 32 := 3#32
  let v88 : BitVec 32 := Scalar.addi v87 c3_i32
  let v89 : Index := Scalar.indexCast v88
  ![v89.toNat]
def k0_off78 (i : grid0.Coords) : Fin 1 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  ![v50.toNat]
def k0_off79 (i : grid0.Coords) (k0_t2 : Fin k0_t2_loop.trips) : Fin 4 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let c3_i32_49 : BitVec 32 := 3#32
  let v91 : BitVec 32 := Scalar.addi v53 c3_i32_49
  let c0_i32_50 : BitVec 32 := 0#32
  let c0_i32_51 : BitVec 32 := 0#32
  ![v50.toNat, v91.toNat, 0, 0]
def k0_off80 (v90 : BitVec 32) : Fin 3 → Nat :=
  let c0_i32_52 : BitVec 32 := 0#32
  let c0_i32_53 : BitVec 32 := 0#32
  ![v90.toNat, 0, 0]

def k0_chk20 (i : grid0.Coords) (v90 : BitVec 32) : Prop :=
  (∀ (k0_h2 : k0_cond2 i = 1#1), ∀ a, (k0_off80 v90) a + S1x1x768.size a ≤ S50000x1x768.size a)
theorem k0_off80_inb : ∀ (i : grid0.Coords) (v90 : BitVec 32) (k0_hw20 : k0_chk20 i v90), ∀ (k0_h2 : k0_cond2 i = 1#1), ∀ a, (k0_off80 v90) a + S1x1x768.size a ≤ S50000x1x768.size a := fun i v90 k0_hw20 k0_h2 => k0_hw20 k0_h2

def k0_off81 (i : grid0.Coords) (k0_t2 : Fin k0_t2_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_26 : BitVec 32 := 1#32
  let v49 : BitVec 32 := Scalar.addi v1 c1_i32_26
  let c1024_i32 : BitVec 32 := 1024#32
  let v51 : BitVec 32 := Scalar.muli v49 c1024_i32
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let v98 : BitVec 32 := Scalar.addi v51 v53
  let c4_i32 : BitVec 32 := 4#32
  let v99 : BitVec 32 := Scalar.addi v98 c4_i32
  let v100 : Index := Scalar.indexCast v99
  ![v100.toNat]
def k0_off82 (i : grid0.Coords) : Fin 1 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  ![v50.toNat]
def k0_off83 (i : grid0.Coords) (k0_t2 : Fin k0_t2_loop.trips) : Fin 4 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let c4_i32_54 : BitVec 32 := 4#32
  let v102 : BitVec 32 := Scalar.addi v53 c4_i32_54
  let c0_i32_55 : BitVec 32 := 0#32
  let c0_i32_56 : BitVec 32 := 0#32
  ![v50.toNat, v102.toNat, 0, 0]
def k0_off84 (v101 : BitVec 32) : Fin 3 → Nat :=
  let c0_i32_57 : BitVec 32 := 0#32
  let c0_i32_58 : BitVec 32 := 0#32
  ![v101.toNat, 0, 0]

def k0_chk21 (i : grid0.Coords) (v101 : BitVec 32) : Prop :=
  (∀ (k0_h2 : k0_cond2 i = 1#1), ∀ a, (k0_off84 v101) a + S1x1x768.size a ≤ S50000x1x768.size a)
theorem k0_off84_inb : ∀ (i : grid0.Coords) (v101 : BitVec 32) (k0_hw21 : k0_chk21 i v101), ∀ (k0_h2 : k0_cond2 i = 1#1), ∀ a, (k0_off84 v101) a + S1x1x768.size a ≤ S50000x1x768.size a := fun i v101 k0_hw21 k0_h2 => k0_hw21 k0_h2

def k0_off85 (i : grid0.Coords) (k0_t2 : Fin k0_t2_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_26 : BitVec 32 := 1#32
  let v49 : BitVec 32 := Scalar.addi v1 c1_i32_26
  let c1024_i32 : BitVec 32 := 1024#32
  let v51 : BitVec 32 := Scalar.muli v49 c1024_i32
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let v109 : BitVec 32 := Scalar.addi v51 v53
  let c5_i32 : BitVec 32 := 5#32
  let v110 : BitVec 32 := Scalar.addi v109 c5_i32
  let v111 : Index := Scalar.indexCast v110
  ![v111.toNat]
def k0_off86 (i : grid0.Coords) : Fin 1 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  ![v50.toNat]
def k0_off87 (i : grid0.Coords) (k0_t2 : Fin k0_t2_loop.trips) : Fin 4 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let c5_i32_59 : BitVec 32 := 5#32
  let v113 : BitVec 32 := Scalar.addi v53 c5_i32_59
  let c0_i32_60 : BitVec 32 := 0#32
  let c0_i32_61 : BitVec 32 := 0#32
  ![v50.toNat, v113.toNat, 0, 0]
def k0_off88 (v112 : BitVec 32) : Fin 3 → Nat :=
  let c0_i32_62 : BitVec 32 := 0#32
  let c0_i32_63 : BitVec 32 := 0#32
  ![v112.toNat, 0, 0]

def k0_chk22 (i : grid0.Coords) (v112 : BitVec 32) : Prop :=
  (∀ (k0_h2 : k0_cond2 i = 1#1), ∀ a, (k0_off88 v112) a + S1x1x768.size a ≤ S50000x1x768.size a)
theorem k0_off88_inb : ∀ (i : grid0.Coords) (v112 : BitVec 32) (k0_hw22 : k0_chk22 i v112), ∀ (k0_h2 : k0_cond2 i = 1#1), ∀ a, (k0_off88 v112) a + S1x1x768.size a ≤ S50000x1x768.size a := fun i v112 k0_hw22 k0_h2 => k0_hw22 k0_h2

def k0_off89 (i : grid0.Coords) (k0_t2 : Fin k0_t2_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_26 : BitVec 32 := 1#32
  let v49 : BitVec 32 := Scalar.addi v1 c1_i32_26
  let c1024_i32 : BitVec 32 := 1024#32
  let v51 : BitVec 32 := Scalar.muli v49 c1024_i32
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let v120 : BitVec 32 := Scalar.addi v51 v53
  let c6_i32 : BitVec 32 := 6#32
  let v121 : BitVec 32 := Scalar.addi v120 c6_i32
  let v122 : Index := Scalar.indexCast v121
  ![v122.toNat]
def k0_off90 (i : grid0.Coords) : Fin 1 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  ![v50.toNat]
def k0_off91 (i : grid0.Coords) (k0_t2 : Fin k0_t2_loop.trips) : Fin 4 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let c6_i32_64 : BitVec 32 := 6#32
  let v124 : BitVec 32 := Scalar.addi v53 c6_i32_64
  let c0_i32_65 : BitVec 32 := 0#32
  let c0_i32_66 : BitVec 32 := 0#32
  ![v50.toNat, v124.toNat, 0, 0]
def k0_off92 (v123 : BitVec 32) : Fin 3 → Nat :=
  let c0_i32_67 : BitVec 32 := 0#32
  let c0_i32_68 : BitVec 32 := 0#32
  ![v123.toNat, 0, 0]

def k0_chk23 (i : grid0.Coords) (v123 : BitVec 32) : Prop :=
  (∀ (k0_h2 : k0_cond2 i = 1#1), ∀ a, (k0_off92 v123) a + S1x1x768.size a ≤ S50000x1x768.size a)
theorem k0_off92_inb : ∀ (i : grid0.Coords) (v123 : BitVec 32) (k0_hw23 : k0_chk23 i v123), ∀ (k0_h2 : k0_cond2 i = 1#1), ∀ a, (k0_off92 v123) a + S1x1x768.size a ≤ S50000x1x768.size a := fun i v123 k0_hw23 k0_h2 => k0_hw23 k0_h2

def k0_off93 (i : grid0.Coords) (k0_t2 : Fin k0_t2_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_26 : BitVec 32 := 1#32
  let v49 : BitVec 32 := Scalar.addi v1 c1_i32_26
  let c1024_i32 : BitVec 32 := 1024#32
  let v51 : BitVec 32 := Scalar.muli v49 c1024_i32
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let v131 : BitVec 32 := Scalar.addi v51 v53
  let c7_i32 : BitVec 32 := 7#32
  let v132 : BitVec 32 := Scalar.addi v131 c7_i32
  let v133 : Index := Scalar.indexCast v132
  ![v133.toNat]
def k0_off94 (i : grid0.Coords) : Fin 1 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  ![v50.toNat]
def k0_off95 (i : grid0.Coords) (k0_t2 : Fin k0_t2_loop.trips) : Fin 4 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let c7_i32_69 : BitVec 32 := 7#32
  let v135 : BitVec 32 := Scalar.addi v53 c7_i32_69
  let c0_i32_70 : BitVec 32 := 0#32
  let c0_i32_71 : BitVec 32 := 0#32
  ![v50.toNat, v135.toNat, 0, 0]
def k0_off96 (v134 : BitVec 32) : Fin 3 → Nat :=
  let c0_i32_72 : BitVec 32 := 0#32
  let c0_i32_73 : BitVec 32 := 0#32
  ![v134.toNat, 0, 0]

def k0_chk24 (i : grid0.Coords) (v134 : BitVec 32) : Prop :=
  (∀ (k0_h2 : k0_cond2 i = 1#1), ∀ a, (k0_off96 v134) a + S1x1x768.size a ≤ S50000x1x768.size a)
theorem k0_off96_inb : ∀ (i : grid0.Coords) (v134 : BitVec 32) (k0_hw24 : k0_chk24 i v134), ∀ (k0_h2 : k0_cond2 i = 1#1), ∀ a, (k0_off96 v134) a + S1x1x768.size a ≤ S50000x1x768.size a := fun i v134 k0_hw24 k0_h2 => k0_hw24 k0_h2

def k0_off97 (i : grid0.Coords) (k0_t2 : Fin k0_t2_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_26 : BitVec 32 := 1#32
  let v49 : BitVec 32 := Scalar.addi v1 c1_i32_26
  let c1024_i32 : BitVec 32 := 1024#32
  let v51 : BitVec 32 := Scalar.muli v49 c1024_i32
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let v142 : BitVec 32 := Scalar.addi v51 v53
  let c8_i32 : BitVec 32 := 8#32
  let v143 : BitVec 32 := Scalar.addi v142 c8_i32
  let v144 : Index := Scalar.indexCast v143
  ![v144.toNat]
def k0_off98 (i : grid0.Coords) : Fin 1 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  ![v50.toNat]
def k0_off99 (i : grid0.Coords) (k0_t2 : Fin k0_t2_loop.trips) : Fin 4 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let c8_i32_74 : BitVec 32 := 8#32
  let v146 : BitVec 32 := Scalar.addi v53 c8_i32_74
  let c0_i32_75 : BitVec 32 := 0#32
  let c0_i32_76 : BitVec 32 := 0#32
  ![v50.toNat, v146.toNat, 0, 0]
def k0_off100 (v145 : BitVec 32) : Fin 3 → Nat :=
  let c0_i32_77 : BitVec 32 := 0#32
  let c0_i32_78 : BitVec 32 := 0#32
  ![v145.toNat, 0, 0]

def k0_chk25 (i : grid0.Coords) (v145 : BitVec 32) : Prop :=
  (∀ (k0_h2 : k0_cond2 i = 1#1), ∀ a, (k0_off100 v145) a + S1x1x768.size a ≤ S50000x1x768.size a)
theorem k0_off100_inb : ∀ (i : grid0.Coords) (v145 : BitVec 32) (k0_hw25 : k0_chk25 i v145), ∀ (k0_h2 : k0_cond2 i = 1#1), ∀ a, (k0_off100 v145) a + S1x1x768.size a ≤ S50000x1x768.size a := fun i v145 k0_hw25 k0_h2 => k0_hw25 k0_h2

def k0_off101 (i : grid0.Coords) (k0_t2 : Fin k0_t2_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_26 : BitVec 32 := 1#32
  let v49 : BitVec 32 := Scalar.addi v1 c1_i32_26
  let c1024_i32 : BitVec 32 := 1024#32
  let v51 : BitVec 32 := Scalar.muli v49 c1024_i32
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let v153 : BitVec 32 := Scalar.addi v51 v53
  let c9_i32 : BitVec 32 := 9#32
  let v154 : BitVec 32 := Scalar.addi v153 c9_i32
  let v155 : Index := Scalar.indexCast v154
  ![v155.toNat]
def k0_off102 (i : grid0.Coords) : Fin 1 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  ![v50.toNat]
def k0_off103 (i : grid0.Coords) (k0_t2 : Fin k0_t2_loop.trips) : Fin 4 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let c9_i32_79 : BitVec 32 := 9#32
  let v157 : BitVec 32 := Scalar.addi v53 c9_i32_79
  let c0_i32_80 : BitVec 32 := 0#32
  let c0_i32_81 : BitVec 32 := 0#32
  ![v50.toNat, v157.toNat, 0, 0]
def k0_off104 (v156 : BitVec 32) : Fin 3 → Nat :=
  let c0_i32_82 : BitVec 32 := 0#32
  let c0_i32_83 : BitVec 32 := 0#32
  ![v156.toNat, 0, 0]

def k0_chk26 (i : grid0.Coords) (v156 : BitVec 32) : Prop :=
  (∀ (k0_h2 : k0_cond2 i = 1#1), ∀ a, (k0_off104 v156) a + S1x1x768.size a ≤ S50000x1x768.size a)
theorem k0_off104_inb : ∀ (i : grid0.Coords) (v156 : BitVec 32) (k0_hw26 : k0_chk26 i v156), ∀ (k0_h2 : k0_cond2 i = 1#1), ∀ a, (k0_off104 v156) a + S1x1x768.size a ≤ S50000x1x768.size a := fun i v156 k0_hw26 k0_h2 => k0_hw26 k0_h2

def k0_off105 (i : grid0.Coords) (k0_t2 : Fin k0_t2_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_26 : BitVec 32 := 1#32
  let v49 : BitVec 32 := Scalar.addi v1 c1_i32_26
  let c1024_i32 : BitVec 32 := 1024#32
  let v51 : BitVec 32 := Scalar.muli v49 c1024_i32
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let v164 : BitVec 32 := Scalar.addi v51 v53
  let c10_i32 : BitVec 32 := 10#32
  let v165 : BitVec 32 := Scalar.addi v164 c10_i32
  let v166 : Index := Scalar.indexCast v165
  ![v166.toNat]
def k0_off106 (i : grid0.Coords) : Fin 1 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  ![v50.toNat]
def k0_off107 (i : grid0.Coords) (k0_t2 : Fin k0_t2_loop.trips) : Fin 4 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let c10_i32_84 : BitVec 32 := 10#32
  let v168 : BitVec 32 := Scalar.addi v53 c10_i32_84
  let c0_i32_85 : BitVec 32 := 0#32
  let c0_i32_86 : BitVec 32 := 0#32
  ![v50.toNat, v168.toNat, 0, 0]
def k0_off108 (v167 : BitVec 32) : Fin 3 → Nat :=
  let c0_i32_87 : BitVec 32 := 0#32
  let c0_i32_88 : BitVec 32 := 0#32
  ![v167.toNat, 0, 0]

def k0_chk27 (i : grid0.Coords) (v167 : BitVec 32) : Prop :=
  (∀ (k0_h2 : k0_cond2 i = 1#1), ∀ a, (k0_off108 v167) a + S1x1x768.size a ≤ S50000x1x768.size a)
theorem k0_off108_inb : ∀ (i : grid0.Coords) (v167 : BitVec 32) (k0_hw27 : k0_chk27 i v167), ∀ (k0_h2 : k0_cond2 i = 1#1), ∀ a, (k0_off108 v167) a + S1x1x768.size a ≤ S50000x1x768.size a := fun i v167 k0_hw27 k0_h2 => k0_hw27 k0_h2

def k0_off109 (i : grid0.Coords) (k0_t2 : Fin k0_t2_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_26 : BitVec 32 := 1#32
  let v49 : BitVec 32 := Scalar.addi v1 c1_i32_26
  let c1024_i32 : BitVec 32 := 1024#32
  let v51 : BitVec 32 := Scalar.muli v49 c1024_i32
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let v175 : BitVec 32 := Scalar.addi v51 v53
  let c11_i32 : BitVec 32 := 11#32
  let v176 : BitVec 32 := Scalar.addi v175 c11_i32
  let v177 : Index := Scalar.indexCast v176
  ![v177.toNat]
def k0_off110 (i : grid0.Coords) : Fin 1 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  ![v50.toNat]
def k0_off111 (i : grid0.Coords) (k0_t2 : Fin k0_t2_loop.trips) : Fin 4 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let c11_i32_89 : BitVec 32 := 11#32
  let v179 : BitVec 32 := Scalar.addi v53 c11_i32_89
  let c0_i32_90 : BitVec 32 := 0#32
  let c0_i32_91 : BitVec 32 := 0#32
  ![v50.toNat, v179.toNat, 0, 0]
def k0_off112 (v178 : BitVec 32) : Fin 3 → Nat :=
  let c0_i32_92 : BitVec 32 := 0#32
  let c0_i32_93 : BitVec 32 := 0#32
  ![v178.toNat, 0, 0]

def k0_chk28 (i : grid0.Coords) (v178 : BitVec 32) : Prop :=
  (∀ (k0_h2 : k0_cond2 i = 1#1), ∀ a, (k0_off112 v178) a + S1x1x768.size a ≤ S50000x1x768.size a)
theorem k0_off112_inb : ∀ (i : grid0.Coords) (v178 : BitVec 32) (k0_hw28 : k0_chk28 i v178), ∀ (k0_h2 : k0_cond2 i = 1#1), ∀ a, (k0_off112 v178) a + S1x1x768.size a ≤ S50000x1x768.size a := fun i v178 k0_hw28 k0_h2 => k0_hw28 k0_h2

def k0_off113 (i : grid0.Coords) (k0_t2 : Fin k0_t2_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_26 : BitVec 32 := 1#32
  let v49 : BitVec 32 := Scalar.addi v1 c1_i32_26
  let c1024_i32 : BitVec 32 := 1024#32
  let v51 : BitVec 32 := Scalar.muli v49 c1024_i32
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let v186 : BitVec 32 := Scalar.addi v51 v53
  let c12_i32 : BitVec 32 := 12#32
  let v187 : BitVec 32 := Scalar.addi v186 c12_i32
  let v188 : Index := Scalar.indexCast v187
  ![v188.toNat]
def k0_off114 (i : grid0.Coords) : Fin 1 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  ![v50.toNat]
def k0_off115 (i : grid0.Coords) (k0_t2 : Fin k0_t2_loop.trips) : Fin 4 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let c12_i32_94 : BitVec 32 := 12#32
  let v190 : BitVec 32 := Scalar.addi v53 c12_i32_94
  let c0_i32_95 : BitVec 32 := 0#32
  let c0_i32_96 : BitVec 32 := 0#32
  ![v50.toNat, v190.toNat, 0, 0]
def k0_off116 (v189 : BitVec 32) : Fin 3 → Nat :=
  let c0_i32_97 : BitVec 32 := 0#32
  let c0_i32_98 : BitVec 32 := 0#32
  ![v189.toNat, 0, 0]

def k0_chk29 (i : grid0.Coords) (v189 : BitVec 32) : Prop :=
  (∀ (k0_h2 : k0_cond2 i = 1#1), ∀ a, (k0_off116 v189) a + S1x1x768.size a ≤ S50000x1x768.size a)
theorem k0_off116_inb : ∀ (i : grid0.Coords) (v189 : BitVec 32) (k0_hw29 : k0_chk29 i v189), ∀ (k0_h2 : k0_cond2 i = 1#1), ∀ a, (k0_off116 v189) a + S1x1x768.size a ≤ S50000x1x768.size a := fun i v189 k0_hw29 k0_h2 => k0_hw29 k0_h2

def k0_off117 (i : grid0.Coords) (k0_t2 : Fin k0_t2_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_26 : BitVec 32 := 1#32
  let v49 : BitVec 32 := Scalar.addi v1 c1_i32_26
  let c1024_i32 : BitVec 32 := 1024#32
  let v51 : BitVec 32 := Scalar.muli v49 c1024_i32
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let v197 : BitVec 32 := Scalar.addi v51 v53
  let c13_i32 : BitVec 32 := 13#32
  let v198 : BitVec 32 := Scalar.addi v197 c13_i32
  let v199 : Index := Scalar.indexCast v198
  ![v199.toNat]
def k0_off118 (i : grid0.Coords) : Fin 1 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  ![v50.toNat]
def k0_off119 (i : grid0.Coords) (k0_t2 : Fin k0_t2_loop.trips) : Fin 4 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let c13_i32_99 : BitVec 32 := 13#32
  let v201 : BitVec 32 := Scalar.addi v53 c13_i32_99
  let c0_i32_100 : BitVec 32 := 0#32
  let c0_i32_101 : BitVec 32 := 0#32
  ![v50.toNat, v201.toNat, 0, 0]
def k0_off120 (v200 : BitVec 32) : Fin 3 → Nat :=
  let c0_i32_102 : BitVec 32 := 0#32
  let c0_i32_103 : BitVec 32 := 0#32
  ![v200.toNat, 0, 0]

def k0_chk30 (i : grid0.Coords) (v200 : BitVec 32) : Prop :=
  (∀ (k0_h2 : k0_cond2 i = 1#1), ∀ a, (k0_off120 v200) a + S1x1x768.size a ≤ S50000x1x768.size a)
theorem k0_off120_inb : ∀ (i : grid0.Coords) (v200 : BitVec 32) (k0_hw30 : k0_chk30 i v200), ∀ (k0_h2 : k0_cond2 i = 1#1), ∀ a, (k0_off120 v200) a + S1x1x768.size a ≤ S50000x1x768.size a := fun i v200 k0_hw30 k0_h2 => k0_hw30 k0_h2

def k0_off121 (i : grid0.Coords) (k0_t2 : Fin k0_t2_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_26 : BitVec 32 := 1#32
  let v49 : BitVec 32 := Scalar.addi v1 c1_i32_26
  let c1024_i32 : BitVec 32 := 1024#32
  let v51 : BitVec 32 := Scalar.muli v49 c1024_i32
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let v208 : BitVec 32 := Scalar.addi v51 v53
  let c14_i32 : BitVec 32 := 14#32
  let v209 : BitVec 32 := Scalar.addi v208 c14_i32
  let v210 : Index := Scalar.indexCast v209
  ![v210.toNat]
def k0_off122 (i : grid0.Coords) : Fin 1 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  ![v50.toNat]
def k0_off123 (i : grid0.Coords) (k0_t2 : Fin k0_t2_loop.trips) : Fin 4 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let c14_i32_104 : BitVec 32 := 14#32
  let v212 : BitVec 32 := Scalar.addi v53 c14_i32_104
  let c0_i32_105 : BitVec 32 := 0#32
  let c0_i32_106 : BitVec 32 := 0#32
  ![v50.toNat, v212.toNat, 0, 0]
def k0_off124 (v211 : BitVec 32) : Fin 3 → Nat :=
  let c0_i32_107 : BitVec 32 := 0#32
  let c0_i32_108 : BitVec 32 := 0#32
  ![v211.toNat, 0, 0]

def k0_chk31 (i : grid0.Coords) (v211 : BitVec 32) : Prop :=
  (∀ (k0_h2 : k0_cond2 i = 1#1), ∀ a, (k0_off124 v211) a + S1x1x768.size a ≤ S50000x1x768.size a)
theorem k0_off124_inb : ∀ (i : grid0.Coords) (v211 : BitVec 32) (k0_hw31 : k0_chk31 i v211), ∀ (k0_h2 : k0_cond2 i = 1#1), ∀ a, (k0_off124 v211) a + S1x1x768.size a ≤ S50000x1x768.size a := fun i v211 k0_hw31 k0_h2 => k0_hw31 k0_h2

def k0_off125 (i : grid0.Coords) (k0_t2 : Fin k0_t2_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c1_i32_26 : BitVec 32 := 1#32
  let v49 : BitVec 32 := Scalar.addi v1 c1_i32_26
  let c1024_i32 : BitVec 32 := 1024#32
  let v51 : BitVec 32 := Scalar.muli v49 c1024_i32
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let v219 : BitVec 32 := Scalar.addi v51 v53
  let c15_i32 : BitVec 32 := 15#32
  let v220 : BitVec 32 := Scalar.addi v219 c15_i32
  let v221 : Index := Scalar.indexCast v220
  ![v221.toNat]
def k0_off126 (i : grid0.Coords) : Fin 1 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  ![v50.toNat]
def k0_off127 (i : grid0.Coords) (k0_t2 : Fin k0_t2_loop.trips) : Fin 4 → Nat :=
  let c1_i32_27 : BitVec 32 := 1#32
  let arg1 : BitVec 32 := BitVec.ofNat 32 (i 1).val
  let c2_i32 : BitVec 32 := 2#32
  let v2 : BitVec 32 := Scalar.remsi arg1 c2_i32
  let v50 : BitVec 32 := Scalar.subi c1_i32_27 v2
  let c0_i32_28 : BitVec 32 := 0#32
  let c1_i32_29 : BitVec 32 := 1#32
  let arg11 : BitVec 32 := Scf.iv c0_i32_28 c1_i32_29 k0_t2
  let c16_i32 : BitVec 32 := 16#32
  let v53 : BitVec 32 := Scalar.muli arg11 c16_i32
  let c15_i32_109 : BitVec 32 := 15#32
  let v223 : BitVec 32 := Scalar.addi v53 c15_i32_109
  let c0_i32_110 : BitVec 32 := 0#32
  let c0_i32_111 : BitVec 32 := 0#32
  ![v50.toNat, v223.toNat, 0, 0]
def k0_off128 (v222 : BitVec 32) : Fin 3 → Nat :=
  let c0_i32_112 : BitVec 32 := 0#32
  let c0_i32_113 : BitVec 32 := 0#32
  ![v222.toNat, 0, 0]

def k0_chk32 (i : grid0.Coords) (v222 : BitVec 32) : Prop :=
  (∀ (k0_h2 : k0_cond2 i = 1#1), ∀ a, (k0_off128 v222) a + S1x1x768.size a ≤ S50000x1x768.size a)
theorem k0_off128_inb : ∀ (i : grid0.Coords) (v222 : BitVec 32) (k0_hw32 : k0_chk32 i v222), ∀ (k0_h2 : k0_cond2 i = 1#1), ∀ a, (k0_off128 v222) a + S1x1x768.size a ≤ S50000x1x768.size a := fun i v222 k0_hw32 k0_h2 => k0_hw32 k0_h2

def k0_off129 (i : grid0.Coords) : Fin 1 → Nat :=
  let arg1 : BitVec 32 := BitVec.ofNat 32 (i 1).val
  let c2_i32 : BitVec 32 := 2#32
  let v2 : BitVec 32 := Scalar.remsi arg1 c2_i32
  ![v2.toNat]
def k0_off130 (i : grid0.Coords) : Fin 4 → Nat :=
  let arg1 : BitVec 32 := BitVec.ofNat 32 (i 1).val
  let c2_i32 : BitVec 32 := 2#32
  let v2 : BitVec 32 := Scalar.remsi arg1 c2_i32
  let c0_i32_6 : BitVec 32 := 0#32
  let c0_i32_7 : BitVec 32 := 0#32
  let c0_i32_8 : BitVec 32 := 0#32
  ![v2.toNat, 0, 0, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S32x256x768 : Shape := ⟨3, ![32, 256, 768]⟩
abbrev S32x256x8 : Shape := ⟨3, ![32, 256, 8]⟩
abbrev S50000x768 : Shape := ⟨2, ![50000, 768]⟩
abbrev S768x768 : Shape := ⟨2, ![768, 768]⟩
abbrev S_ : Shape := ⟨0, ![]⟩
abbrev S32x256x8x1 : Shape := ⟨4, ![32, 256, 8, 1]⟩
abbrev S32x256x8x768 : Shape := ⟨4, ![32, 256, 8, 768]⟩
abbrev S32x256 : Shape := ⟨2, ![32, 256]⟩
abbrev S32x256x1 : Shape := ⟨3, ![32, 256, 1]⟩

abbrev nBuf : Space → Nat
  | .hbm => 30
  | .vmem => 0
  | .smem => 0
  | _ => 0

abbrev bufTy : (tb : Table) → Fin (tcTables nBuf tb) → BufTy
  | .hbm, ⟨0, _⟩ => ⟨S32x256x768, .f32⟩
  | .hbm, ⟨1, _⟩ => ⟨S32x256x8, .i32⟩
  | .hbm, ⟨2, _⟩ => ⟨S50000x768, .f32⟩
  | .hbm, ⟨3, _⟩ => ⟨S768x768, .f32⟩
  | .hbm, ⟨4, _⟩ => ⟨S_, .i32⟩
  | .hbm, ⟨5, _⟩ => ⟨S32x256x8, .i32⟩
  | .hbm, ⟨6, _⟩ => ⟨S32x256x8, .i1⟩
  | .hbm, ⟨7, _⟩ => ⟨S_, .i32⟩
  | .hbm, ⟨8, _⟩ => ⟨S32x256x8, .i32⟩
  | .hbm, ⟨9, _⟩ => ⟨S32x256x8, .i32⟩
  | .hbm, ⟨10, _⟩ => ⟨S32x256x8, .i32⟩
  | .hbm, ⟨11, _⟩ => ⟨S32x256x8x1, .i32⟩
  | .hbm, ⟨12, _⟩ => ⟨S32x256x8x768, .f32⟩
  | .hbm, ⟨13, _⟩ => ⟨S32x256x768, .f32⟩
  | .hbm, ⟨14, _⟩ => ⟨S32x256x8, .f32⟩
  | .hbm, ⟨15, _⟩ => ⟨S_, .f32⟩
  | .hbm, ⟨16, _⟩ => ⟨S32x256, .f32⟩
  | .hbm, ⟨17, _⟩ => ⟨S_, .f32⟩
  | .hbm, ⟨18, _⟩ => ⟨S32x256, .f32⟩
  | .hbm, ⟨19, _⟩ => ⟨S32x256, .f32⟩
  | .hbm, ⟨20, _⟩ => ⟨S32x256x1, .f32⟩
  | .hbm, ⟨21, _⟩ => ⟨S32x256x8, .f32⟩
  | .hbm, ⟨22, _⟩ => ⟨S32x256x8, .f32⟩
  | .hbm, ⟨23, _⟩ => ⟨S32x256x8, .f32⟩
  | .hbm, ⟨24, _⟩ => ⟨S_, .f32⟩
  | .hbm, ⟨25, _⟩ => ⟨S32x256, .f32⟩
  | .hbm, ⟨26, _⟩ => ⟨S32x256x1, .f32⟩
  | .hbm, ⟨27, _⟩ => ⟨S32x256x8, .f32⟩
  | .hbm, ⟨28, _⟩ => ⟨S32x256x8, .f32⟩
  | .hbm, ⟨29, _⟩ => ⟨S32x256x768, .f32⟩
  | _, _ => ⟨S32x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.Rows.lean ====
/-
  The gather's geometry: the rows of the two-slot scratch, the rows of the embedding table, the index words read
  out of scalar memory, and what a slot holds once a block of 1024 rows has landed in it.
-/
module

public import proofs.«01_k».proof.KernelIdeal
public import proofs.«01_k».proof.Proof.Gen.KernelIdeal
public import Idealize.ShloMosaic.Lib.Pointwise

@[expose] public section

noncomputable section

namespace Cert.Proof.Gather

open Cert.KernelIdeal Cert.KernelIdeal.Facts₀ Cert.KernelIdeal.Facts
open Idealize.ShloMosaic Idealize.ShloMosaic.TcCoe

variable {F : FTy → Type} [FloatOps F]

/-- The index words in scalar memory, the embedding table, the two-slot scratch and the packed scratch. -/
abbrev idxM : Memref sig .tc .smem S65536 .i32 := Memref.whole main_v0
abbrev tabM : Memref sig .tc .hbm S50000x1x768 .f32 := Memref.whole main_v2
abbrev scrM : Memref sig .tc .vmem S2x1024x1x768 .f32 := Memref.whole cc0_scratch0
abbrev pckM : Memref sig .tc .vmem S1024x768 .f32 := Memref.whole cc0_scratch1

/-- Row `r` of slot `s` of the scratch. -/
def rowSet (s r : ℕ) : Finset S2x1024x1x768.Idx := Finset.univ.filter fun i => (i 0).val = s ∧ (i 1).val = r
/-- Slot `s` of the scratch. -/
def slotSet (s : ℕ) : Finset S2x1024x1x768.Idx := Finset.univ.filter fun i => (i 0).val = s
/-- Row `w` of the embedding table. -/
def tabRow (w : ℕ) : Finset S50000x1x768.Idx := Finset.univ.filter fun i => (i 0).val = w

theorem mem_rowSet {s r : ℕ} {i : S2x1024x1x768.Idx} : i ∈ rowSet s r ↔ (i 0).val = s ∧ (i 1).val = r := by
  simp [rowSet]
theorem mem_slotSet {s : ℕ} {i : S2x1024x1x768.Idx} : i ∈ slotSet s ↔ (i 0).val = s := by simp [slotSet]
theorem mem_tabRow {w : ℕ} {i : S50000x1x768.Idx} : i ∈ tabRow w ↔ (i 0).val = w := by simp [tabRow]

/-- The rows of a slot are pairwise disjoint, -/
theorem rowSet_disjoint (s : ℕ) (r r' : Fin 1024) (h : r ≠ r') : Disjoint (rowSet s r.val) (rowSet s r'.val) := by
  rw [Finset.disjoint_left]; intro i hi hi'
  rw [mem_rowSet] at hi hi'
  exact h (Fin.ext (hi.2.symm.trans hi'.2))

/-- and make up the slot. -/
theorem rowSet_cover (s : ℕ) : Finset.univ.biUnion (fun r : Fin 1024 => rowSet s r.val) = slotSet s := by
  ext i
  simp only [Finset.mem_biUnion, Finset.mem_univ, true_and, mem_rowSet, mem_slotSet]
  exact ⟨fun ⟨_, h, _⟩ => h, fun h => ⟨⟨(i 1).val, (i 1).isLt⟩, h, rfl⟩⟩

/-- The two slots are disjoint and make up the scratch. -/
theorem slotSet_disjoint (s s' : ℕ) (h : s ≠ s') : Disjoint (slotSet s) (slotSet s') := by
  rw [Finset.disjoint_left]; intro i hi hi'
  rw [mem_slotSet] at hi hi'
  exact h (hi.symm.trans hi')
theorem slotSet_cover : slotSet 0 ∪ slotSet 1 = Finset.univ := by
  ext i
  have hlt : (i 0).val < 2 := (i 0).isLt
  simp only [Finset.mem_union, mem_slotSet, Finset.mem_univ, iff_true]
  omega

/-- The index of word `n` of the table of index words. -/
def wordIx (n : ℕ) : S65536.Idx := ix1 ⟨n % 65536, Nat.mod_lt _ (by decide)⟩
/-- The table row word `n` names. -/
def rowOf (T : S65536.Idx → BitVec 32) (n : ℕ) : Fin 50000 := ⟨(T (wordIx n)).toNat % 50000, Nat.mod_lt _ (by decide)⟩

/-- Block `b` gathered: row `r` holds, in either slot, the table's row that word `1024 b + r` names. -/
def landed (T : S65536.Idx → BitVec 32) (V : S50000x1x768.Idx → F .f32) (b : ℕ) : S2x1024x1x768.Idx → F .f32 :=
  fun i => V (ix3 (rowOf T (1024 * b + (i 1).val)) 0 ⟨(i 3).val, (i 3).isLt⟩)

/-- The scratch row a transfer writes. -/
abbrev dstRow (off : Fin 4 → ℕ) (h : ∀ a, off a + S1x1x1x768.size a ≤ S2x1024x1x768.size a) : Memref sig .tc .vmem S1x768 .f32 :=
  (scrM.slice (Rect.unit (s := S2x1024x1x768) off S1x1x1x768.size h) (fun _ => rfl)).squeeze S1x768 squeezes_S1x1x1x768_S1x768
/-- The table row a transfer reads. -/
abbrev srcRow (off : Fin 3 → ℕ) (h : ∀ a, off a + S1x1x768.size a ≤ S50000x1x768.size a) : Memref sig .tc .hbm S1x768 .f32 :=
  (tabM.slice (Rect.unit (s := S50000x1x768) off S1x1x768.size h) (fun _ => rfl)).squeeze S1x768 squeezes_S1x1x768_S1x768

theorem dstRow_set {s r : ℕ} {off : Fin 4 → ℕ} (e : off = ![s, r, 0, 0]) (h) : (dstRow off h).view.set = rowSet s r := by
  subst e
  refine (View.set_reshape _ _).trans ?_
  show ((View.whole cc0_scratch0).slice (Rect.unit (s := S2x1024x1x768) ![s, r, 0, 0] S1x1x1x768.size h)).set = _
  rw [View.set_slice_whole]
  ext i
  rw [Rect.mem_set_unit, mem_rowSet]
  have h2 : (i 2).val < 1 := (i 2).isLt
  have h3 : (i 3).val < 768 := (i 3).isLt
  constructor
  · intro H
    have a0 := H 0; have a1 := H 1
    simp [S1x1x1x768] at a0 a1
    omega
  · rintro ⟨rfl, rfl⟩ a
    fin_cases a
    · exact ⟨le_rfl, Nat.lt_succ_self _⟩
    · exact ⟨le_rfl, Nat.lt_succ_self _⟩
    · exact ⟨Nat.zero_le _, h2⟩
    · exact ⟨Nat.zero_le _, h3⟩

theorem srcRow_set {w : ℕ} {off : Fin 3 → ℕ} (e : off = ![w, 0, 0]) (h) : (srcRow off h).view.set = tabRow w := by
  subst e
  refine (View.set_reshape _ _).trans ?_
  show ((View.whole main_v2).slice (Rect.unit (s := S50000x1x768) ![w, 0, 0] S1x1x768.size h)).set = _
  rw [View.set_slice_whole]
  ext i
  rw [Rect.mem_set_unit, mem_tabRow]
  have h2 : (i 1).val < 1 := (i 1).isLt
  have h3 : (i 2).val < 768 := (i 2).isLt
  constructor
  · intro H
    have a0 := H 0
    simp [S1x1x768] at a0
    omega
  · rintro rfl a
    fin_cases a
    · exact ⟨le_rfl, Nat.lt_succ_self _⟩
    · exact ⟨Nat.zero_le _, h2⟩
    · exact ⟨Nat.zero_le _, h3⟩

/-- The element of the scratch under position `(0, e)` of a written row. -/
theorem dstRow_emb {s r : ℕ} {off : Fin 4 → ℕ} (e : off = ![s, r, 0, 0]) (h) (hs : s < 2) (hr : r < 1024) (x : S1x768.Idx) :
    (dstRow off h).view.emb x = (ix4 ⟨s, hs⟩ ⟨r, hr⟩ 0 (x 1) : S2x1024x1x768.Idx) := by
  subst e
  have hx : x = ix2 (0 : Fin 1) (x 1) := by
    rw [eq_ix2 x]; congr 1; exact Subsingleton.elim (α := Fin 1) _ _
  have hre : Shape.reshapeEquiv (s := S1x1x1x768) (s' := S1x768) squeezes_S1x1x1x768_S1x768.numel_eq x = ix4 0 0 0 (x 1) := by
    rw [hx]; pointwise
  show (Rect.unit (s := S2x1024x1x768) ![s, r, 0, 0] S1x1x1x768.size h).emb (Shape.reshapeEquiv squeezes_S1x1x1x768_S1x768.numel_eq x) = _
  rw [hre]
  funext a; apply Fin.ext
  fin_cases a
  · exact (show s + 1 * 0 = s by omega)
  · exact (show r + 1 * 0 = r by omega)
  · exact (show 0 + 1 * 0 = 0 by omega)
  · exact (show 0 + 1 * (x 1).val = (x 1).val by omega)

/-- The element of the table under position `(0, e)` of a read row. -/
theorem srcRow_emb {w : ℕ} {off : Fin 3 → ℕ} (e : off = ![w, 0, 0]) (h) (hw : w < 50000) (x : S1x768.Idx) :
    (srcRow off h).view.emb x = (ix3 ⟨w, hw⟩ 0 (x 1) : S50000x1x768.Idx) := by
  subst e
  have hx : x = ix2 (0 : Fin 1) (x 1) := by
    rw [eq_ix2 x]; congr 1; exact Subsingleton.elim (α := Fin 1) _ _
  have hre : Shape.reshapeEquiv (s := S1x1x768) (s' := S1x768) squeezes_S1x1x768_S1x768.numel_eq x = ix3 0 0 (x 1) := by
    rw [hx]; pointwise
  show (Rect.unit (s := S50000x1x768) ![w, 0, 0] S1x1x768.size h).emb (Shape.reshapeEquiv squeezes_S1x1x768_S1x768.numel_eq x) = _
  rw [hre]
  funext a; apply Fin.ext
  fin_cases a
  · exact (show w + 1 * 0 = w by omega)
  · exact (show 0 + 1 * 0 = 0 by omega)
  · exact (show 0 + 1 * (x 1).val = (x 1).val by omega)

/-- A transfer of the table row word `1024 b + r` names into row `r` of slot `s` leaves that row as block `b` gathered. -/
theorem write_landed {s r b : ℕ} {off : Fin 4 → ℕ} (e : off = ![s, r, 0, 0]) (h) (hs : s < 2) (hr : r < 1024)
    (T : S65536.Idx → BitVec 32) (V : S50000x1x768.Idx → F .f32)
    {off' : Fin 3 → ℕ} (e' : off' = ![(T (wordIx (1024 * b + r))).toNat, 0, 0]) (h') (hw : (T (wordIx (1024 * b + r))).toNat < 50000)
    (f : S2x1024x1x768.Idx → F .f32) (i : S2x1024x1x768.Idx) (hi : i ∈ rowSet s r) :
    ((dstRow off h).view.write (Elt F) f (ReadAs.same.apply ((srcRow off' h').view.read (Elt F) V)) Finset.univ) i
      = landed T V b i := by
  rw [← dstRow_set e h] at hi
  obtain ⟨x, -, rfl⟩ := Finset.mem_map.mp hi
  rw [View.write_emb_of_mem _ _ (Finset.mem_univ x)]
  have hrow : rowOf T (1024 * b + r) = ⟨(T (wordIx (1024 * b + r))).toNat, hw⟩ := Fin.ext (Nat.mod_eq_of_lt hw)
  have hL : landed T V b ((dstRow off h).view.emb x) = V (ix3 ⟨(T (wordIx (1024 * b + r))).toNat, hw⟩ 0 (x 1)) := by
    rw [dstRow_emb e h hs hr x]
    show V (ix3 (rowOf T (1024 * b + r)) 0 (x 1)) = _
    rw [hrow]
  rw [hL, ← srcRow_emb e' h' hw x]
  rfl

end Cert.Proof.Gather

end
-- ==== Proof.Issue.lean ====
/-
  One row of a block's gather: the index word read, checked, and the table row it names sent into its row of the
  slot; and what is held while a block's 1024 rows are being issued.
-/
module

public import proofs.«01_k».proof.Proof.Rows
public import Idealize.ShloMosaic.Lib.Pipeline.FrameBody
public import Idealize.ShloMosaic.Lib.Batch
public import Idealize.ShloMosaic.Lib.Ring
public import Idealize.ShloMosaic.Lib.Tactic

@[expose] public section

noncomputable section

namespace Cert.Proof.Gather

open Cert.KernelIdeal Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The table row word `n` names, as a number. -/
abbrev word (T : S65536.Idx → BitVec 32) (n : ℕ) : ℕ := (T (wordIx n)).toNat

/-- The semaphore of slot `s`, as a cell of the semaphore array; -/
abbrev cellAt (off : Fin 1 → ℕ) (h : ∀ a, off a + S1.size a ≤ S2.size a) : DmaSem sig :=
  ((cc0_scratch2.slice (Rect.unit (s := S2) off S1.size h)).squeeze S_ squeezes_S1_S_).sem
/-- by its number. -/
def cell (s : ℕ) : DmaSem sig := if s = 0 then 5 else 6

theorem cellAt_eq {s : ℕ} {off : Fin 1 → ℕ} (e : off = ![s]) (hs : s < 2) (h) : cellAt off h = cell s := by
  subst e
  show cc0_scratch2.ix ((Rect.unit (s := S2) ![s] S1.size h).emb (Shape.reshapeEquiv _ _)) = _
  have hz : ∀ x : S1.Idx, (Rect.unit (s := S2) ![s] S1.size h).emb x = (ix1 ⟨s, hs⟩ : S2.Idx) := by
    intro x; funext a; apply Fin.ext; fin_cases a
    have hx0 : (x 0).val < 1 := (x 0).isLt
    exact (show s + 1 * (x 0).val = s by omega)
  rw [hz]
  interval_cases s <;> decide +revert

/-- A row's transfer is counted as 96 units. -/
theorem row_credit (off : Fin 4 → ℕ) (h) : (dstRow off h).view.dmaCredit = 96 := by
  rfl

/-- The half of the table's share that the transfers into slot `s` read with. -/
def half (s : ℕ) : PosShare TreeShare := if s = 0 then fullShare.left else fullShare.right
/-- The part of it that the transfer of row `r` reads with. -/
abbrev tok (s r : ℕ) : PosShare TreeShare := Transfers.shareTokN (half s) r

section Names

variable (c : Dev nD) (T : S65536.Idx → BitVec 32) (V : S50000x1x768.Idx → F .f32)

abbrev scrLoc : Loc nD τ sig := (scrM.view.loc (c : Thread nD τ))
abbrev tabLoc : Loc nD τ sig := (tabM.view.loc (c : Thread nD τ))
abbrev idxLoc : Loc nD τ sig := (idxM.view.loc (c : Thread nD τ))
abbrev pckLoc : Loc nD τ sig := (pckM.view.loc (c : Thread nD τ))

/-- What the transfer of row `r` of block `b` hands back when it lands: the slot's row, gathered, and the share of the
    table's row it read. -/
def rowDone (s b : ℕ) (r : Fin 1024) : sProp 𝕄 :=
  iprop((scrLoc c ↦[rowSet s r.val]{fullShare} (landed T V b : S2x1024x1x768.Idx → F .f32))
    ∗ (tabLoc c ↦[tabRow (word T (1024 * b + r.val))]{tok s r.val} V))

instance (s b : ℕ) (r : Fin 1024) : Storable (upEmb : UEmb _ 𝕄) (rowDone c T V s b r) := by
  unfold rowDone; infer_instance

/-- What the transfer of row `r` needs: the slot's row and a share of the table. -/
def rowFree (s : ℕ) (r : Fin 1024) : sProp 𝕄 :=
  iprop((tabLoc c ↦{tok s r.val} V) ∗ ∃ f : S2x1024x1x768.Idx → F .f32, scrLoc c ↦[rowSet s r.val]{fullShare} f)

/-- The share of the rest of the table, kept back while row `r`'s transfer reads its row. -/
def rowRest (s b : ℕ) (r : Fin 1024) : sProp 𝕄 :=
  tabLoc c ↦[Finset.univ \ tabRow (word T (1024 * b + r.val))]{tok s r.val} V

/-- The batch of block `b`'s transfers into slot `s`, `n` issued. -/
abbrev batch (s b n : ℕ) : sProp 𝕄 :=
  Transfers.Batch (countersEmb (U := Pipeline.UD sig nD τ)) (c : Thread nD τ) (.dma (cell s)) () 96 (rowDone c T V s b) n 0

/-- What is held when `n` rows of block `b` have been issued into slot `s`. -/
def issued (s b n : ℕ) : sProp 𝕄 :=
  iprop((idxLoc c ↦{fullShare.right} T) ∗ bigSep (Ring.rangeSet 1024 n 1024) (rowFree c V s)
    ∗ bigSep (Ring.rangeSet 1024 0 n) (rowRest c T V s b) ∗ batch c T V s b n)

end Names

section Step

variable (c : Dev nD) (T : S65536.Idx → BitVec 32) (V : S50000x1x768.Idx → F .f32)

/-- The transfer of row `r`: it takes the slot's row and a share of the table's row, and is one more of the batch. -/
theorem row_issue [∀ e, Nonempty (Elt F e)] (𝒱 : Variants) (bd : Option 𝒱.V) {s b r : ℕ} (hs : s < 2) (hr : r < 1024)
    (hw : word T (1024 * b + r) < 50000)
    {offC : Fin 1 → ℕ} (eC : offC = ![s]) {hC : ∀ a, offC a + S1.size a ≤ S2.size a}
    {offD : Fin 4 → ℕ} (eD : offD = ![s, r, 0, 0]) {hD : ∀ a, offD a + S1x1x1x768.size a ≤ S2x1024x1x768.size a}
    {offS : Fin 3 → ℕ} (eS : offS = ![word T (1024 * b + r), 0, 0]) {hS : ∀ a, offS a + S1x1x768.size a ≤ S50000x1x768.size a}
    {h1 : (srcRow offS hS).view.WordExact} {h2 : (dstRow offD hD).view.WordExact}
    {h3 : DmaTarget.Typed (nD := nD) (p := (Proc.tc : Proc τ)) .hbm (.dma (cellAt offC hC)) (.here (dstRow offD hD))}
    {α : Type} {Q : α → sProp 𝕄} {k : PUnit → Prog (TpuEff nD τ sig (Elt F) Λ₀ .tc) α} (f : S2x1024x1x768.Idx → F .f32) :
    iprop((tabLoc c ↦[tabRow (word T (1024 * b + r))]{tok s r} V) ∗ (scrLoc c ↦[rowSet s r]{fullShare} f) ∗ batch c T V s b r)
      ⊢ iprop((batch c T V s b (r + 1) -∗ wp frame (wpE (defs₀ (F := F)) 𝒱 (c : Thread nD τ) bd) Set.univ (k ⟨⟩) Q)
        -∗ wp frame (wpE (defs₀ (F := F)) 𝒱 (c : Thread nD τ) bd) Set.univ
          (.op (.enqueueDma (srcRow offS hS) (.here (dstRow offD hD)) (.dma (cellAt offC hC)) h1 h2 h3) k) Q) := by
  have hN : (dstRow offD hD).view.amount (.dma (cellAt offC hC)) = 96 := row_credit offD hD
  have hSd : (dstRow offD hD).view.set ⊆ rowSet s r := by rw [dstRow_set eD hD]
  have hdel : iprop((scrLoc c ↦[rowSet s r]{fullShare} ((dstRow offD hD).view.write (Elt F) f (ReadAs.same.apply
        ((srcRow offS hS).view.read (Elt F) V)) Finset.univ))
      ∗ (tabLoc c ↦[(srcRow offS hS).view.set]{tok s r} V)) ⊢ (rowDone c T V s b ⟨r, hr⟩ : sProp 𝕄) := by
    unfold rowDone
    rw [pointsTo_congr (fun i hi => write_landed eD hD hs hr T V eS hS hw f i hi), srcRow_set eS]
  have hc := cellAt_eq eC hs hC
  revert hN h3
  rw [hc]
  intro h3 hN
  have key := Transfers.wp_dmaBatch (countersEmb (U := Pipeline.UD sig nD τ)) (defs := defs₀ (F := F)) 𝒱 (c : Thread nD τ) bd
    (src := srcRow offS hS) (via := ReadAs.same) (hsrc := h1) (hdst := h2) (hsem := h3) (k := k) (Q := Q)
    (dst := dstRow offD hD) (Sd := rowSet s r) (fs := V) (fd := f) (q := tok s r) (D := rowDone c T V s b) (j := r) (u := 0)
    () 96 hN hSd hr (Nat.zero_le _) hdel
  rw [srcRow_set eS] at key
  exact key

/-- One row: whatever follows the issue of row `r` goes on with `r + 1` rows issued. -/
theorem row_step [∀ e, Nonempty (Elt F e)] (𝒱 : Variants) (bd : Option 𝒱.V) (hT : ∀ n, word T n < 50000) {s b r : ℕ} (hs : s < 2) (hr : r < 1024) (hb : b < 64)
    {offI : Fin 1 → ℕ} (eI : offI = ![1024 * b + r]) {hI : ∀ a, offI a + S1.size a ≤ S65536.size a}
    {offC : Fin 1 → ℕ} (eC : offC = ![s]) {hC : ∀ a, offC a + S1.size a ≤ S2.size a}
    {offD : Fin 4 → ℕ} (eD : offD = ![s, r, 0, 0]) {hD : ∀ a, offD a + S1x1x1x768.size a ≤ S2x1024x1x768.size a}
    {chk : BitVec 32 → Prop} {dec : ∀ v, Decidable (chk v)} (hchk : ∀ v : BitVec 32, v.toNat < 50000 → chk v)
    {offS : BitVec 32 → Fin 3 → ℕ} (eS : ∀ v, offS v = ![v.toNat, 0, 0])
    {hS : ∀ v, chk v → ∀ a, offS v a + S1x1x768.size a ≤ S50000x1x768.size a}
    {hl : idxM.view.LoadsAt (Rect.unit (s := S65536) offI S1.size hI)} {x : (Rect.unit (s := S65536) offI S1.size hI).shape.Idx}
    {h1 : ∀ v h, (srcRow (offS v) (hS v h)).view.WordExact} {h2 : (dstRow offD hD).view.WordExact}
    {h3 : DmaTarget.Typed (nD := nD) (p := (Proc.tc : Proc τ)) .hbm (.dma (cellAt offC hC)) (.here (dstRow offD hD))}
    {α : Type} {P : Prog (TpuEff nD τ sig (Elt F) Λ₀ .tc) α} {Q : α → sProp 𝕄}
    {K : (f : (Rect.unit (s := S65536) offI S1.size hI).shape.Idx → Elt F .i32) → PLift (chk (f x)) → Prog (TpuEff nD τ sig (Elt F) Λ₀ .tc) α}
    (hP : P = .op (.load idxM (Rect.unit (s := S65536) offI S1.size hI) hl) fun f =>
      .op (.assume (chk (f x)) (dec (f x))) fun h =>
      .op (.enqueueDma (srcRow (offS (f x)) (hS (f x) h.down)) (.here (dstRow offD hD)) (.dma (cellAt offC hC)) (h1 (f x) h.down) h2 h3) fun _ => K f h)
    (hK : ∀ f h, issued c T V s b (r + 1) ⊢ wp frame (wpE (defs₀ (F := F)) 𝒱 (c : Thread nD τ) bd) Set.univ (K f h) Q) :
    issued c T V s b r ⊢ wp frame (wpE (defs₀ (F := F)) 𝒱 (c : Thread nD τ) bd) Set.univ P Q := by
  have hx : (idxM.access (Rect.unit (s := S65536) offI S1.size hI)).read (Elt F) T x = T (wordIx (1024 * b + r)) := by
    subst eI
    show T ((Rect.unit (s := S65536) ![1024 * b + r] S1.size hI).emb x) = _
    congr 1; funext a; apply Fin.ext
    fin_cases a
    have hx0 : (x 0).val < 1 := (x 0).isLt
    exact (show 1024 * b + r + 1 * (x 0).val = (1024 * b + r) % 65536 by omega)
  have hw := hT (1024 * b + r)
  unfold issued
  rw [Ring.bigSep_rangeSet_head (Φ := rowFree c V s) hr hr, hP]
  iintro ⟨HI, ⟨HF, HFs⟩, HR, HB⟩
  iapply (wp_load_rect (m := idxM) (r := Rect.unit (s := S65536) offI S1.size hI) (S := Finset.univ) (q := fullShare.right) (f := T)
    𝒱 (c : Thread nD τ) bd Set.univ (Finset.subset_univ _)) $$ HI
  iintro HI
  have hok : chk ((idxM.access (Rect.unit (s := S65536) offI S1.size hI)).read (Elt F) T x) := by
    rw [hx]; exact hchk _ hw
  iapply (wp_assume 𝒱 (c : Thread nD τ) bd Set.univ hok)
  unfold rowFree
  icases HF with ⟨HV, ⟨%f, HD⟩⟩
  have eS' : offS ((idxM.access (Rect.unit (s := S65536) offI S1.size hI)).read (Elt F) T x) = ![word T (1024 * b + r), 0, 0] := by
    rw [eS, hx]
  ihave HV' := (pointsTo_split_subset (q := tok s r) (f := V) (Finset.subset_univ (tabRow (word T (1024 * b + r))))).1 $$ HV
  icases HV' with ⟨HV, HVr⟩
  iapply (row_issue c T V 𝒱 bd hs hr hw eC eD eS' f) $$ [HV HD HB]
  · isplitl [HV]; · iexact HV
    isplitl [HD]; · iexact HD
    iexact HB
  · iintro HB
    iapply (hK _ _)
    unfold issued
    isplitl [HI]; · iexact HI
    isplitl [HFs]; · iexact HFs
    isplitl [HR HVr]
    · rw [Ring.bigSep_rangeSet_last (Φ := rowRest c T V s b) (lo := 0) (hi := r + 1) (by omega) (by omega)]
      isplitl [HVr]
      · iapply (show (tabLoc c ↦[Finset.univ \ tabRow (word T (1024 * b + r))]{tok s r} V : sProp 𝕄)
          ⊢ rowRest c T V s b ⟨r + 1 - 1, _⟩ from Entails.of_eq rfl) $$ HVr
      iexact HR
    iexact HB

end Step

end Cert.Proof.Gather

end
-- ==== Proof.Trips.lean ====
/-
  The two issue loops: one trip sends sixteen rows of a block, so a loop sends the whole block.
-/
module

public import proofs.«01_k».proof.Proof.Issue
public import proofs.«01_k».proof.Proof.Gen.KernelIdeal.Loops

@[expose] public section

noncomputable section

namespace Cert.Proof.Gather

open Cert.KernelIdeal Cert.KernelIdeal.Facts₀ Cert.KernelIdeal.Facts Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem vec1 {a b : ℕ} (h : a = b) : ![a] = ![b] := by rw [h]
theorem vec4 {a a' b b' : ℕ} (h : a = a') (h' : b = b') : ![a, b, 0, 0] = ![a', b', 0, 0] := by rw [h, h']

section Trip

variable (c : Dev nD) (T : S65536.Idx → BitVec 32) (V : S50000x1x768.Idx → F .f32)

/-- A row number in the table's range passes the kernel's check of it. -/
theorem row_inb {v : BitVec 32} (h : v.toNat < 50000) (a : Fin 3) :
    (![v.toNat, 0, 0] : Fin 3 → ℕ) a + S1x1x768.size a ≤ S50000x1x768.size a := by
  fin_cases a
  · exact (show v.toNat + 1 ≤ 50000 by omega)
  · exact (show 0 + 1 ≤ 1 by omega)
  · exact (show 0 + 768 ≤ 768 by omega)

/-- A trip of the first loop sends sixteen rows of its own block. -/
theorem trip1 [∀ e, Nonempty (Elt F e)] (𝒱 : Variants) (bd : Option 𝒱.V) (hT : ∀ n, word T n < 50000) (i : grid0.Coords) (k0_h1 : k0_cond1 i = 1#1)
    (hi : 32 * (i 0).val + (i 1).val < 64)
    {arg3 : Memref sig .tc .vmem S128x768 .f32} {arg4 : Memref sig .tc .vmem S768x768 .f32} {arg6 : Memref sig .tc .vmem S128x768 .f32}
    {ha2 ha3 ha4 ha5 ha6 ha7 ha8} (v : BitVec 32) (k : Fin k0_t1_loop.trips) (acc : Unit) :
    issued c T V ((i 1).val % 2) (32 * (i 0).val + (i 1).val) (16 * k.val) ⊢ wp frame (wpE (defs₀ (F := F)) 𝒱 (c : Thread nD τ) bd) Set.univ
      (k0_t1_body i idxM ha2 arg3 ha3 arg4 ha4 tabM ha5 arg6 ha6 scrM ha7 pckM ha8 cc0_scratch2 cc0_scratch3 k0_h1 v k acc)
      (fun _ => issued c T V ((i 1).val % 2) (32 * (i 0).val + (i 1).val) (16 * (k.val + 1))) := by
  have hk : k.val < 64 := lt_of_lt_of_le k.isLt k0_t1_abs.2.1
  have hs : (i 1).val % 2 < 2 := by omega
  refine row_step c T V 𝒱 bd hT (r := 16 * k.val + 0) hs (by omega) hi ((k0_off1_eq i k).trans (vec1 (by omega))) (k0_off2_eq i)
    ((k0_off3_eq i k).trans rfl) (chk := k0_chk1 i) (fun v hv _ => row_inb hv) (offS := k0_off4) (fun _ => rfl)
    (hS := fun v hw => k0_off4_inb i v hw k0_h1) rfl fun _ _ => ?_
  refine row_step c T V 𝒱 bd hT (r := 16 * k.val + 1) hs (by omega) hi ((k0_off5_eq i k).trans (vec1 (by omega))) (k0_off6_eq i)
    ((k0_off7_eq i k).trans rfl) (chk := k0_chk2 i) (fun v hv _ => row_inb hv) (offS := k0_off8) (fun _ => rfl)
    (hS := fun v hw => k0_off8_inb i v hw k0_h1) rfl fun _ _ => ?_
  refine row_step c T V 𝒱 bd hT (r := 16 * k.val + 2) hs (by omega) hi ((k0_off9_eq i k).trans (vec1 (by omega))) (k0_off10_eq i)
    ((k0_off11_eq i k).trans rfl) (chk := k0_chk3 i) (fun v hv _ => row_inb hv) (offS := k0_off12) (fun _ => rfl)
    (hS := fun v hw => k0_off12_inb i v hw k0_h1) rfl fun _ _ => ?_
  refine row_step c T V 𝒱 bd hT (r := 16 * k.val + 3) hs (by omega) hi ((k0_off13_eq i k).trans (vec1 (by omega))) (k0_off14_eq i)
    ((k0_off15_eq i k).trans rfl) (chk := k0_chk4 i) (fun v hv _ => row_inb hv) (offS := k0_off16) (fun _ => rfl)
    (hS := fun v hw => k0_off16_inb i v hw k0_h1) rfl fun _ _ => ?_
  refine row_step c T V 𝒱 bd hT (r := 16 * k.val + 4) hs (by omega) hi ((k0_off17_eq i k).trans (vec1 (by omega))) (k0_off18_eq i)
    ((k0_off19_eq i k).trans rfl) (chk := k0_chk5 i) (fun v hv _ => row_inb hv) (offS := k0_off20) (fun _ => rfl)
    (hS := fun v hw => k0_off20_inb i v hw k0_h1) rfl fun _ _ => ?_
  refine row_step c T V 𝒱 bd hT (r := 16 * k.val + 5) hs (by omega) hi ((k0_off21_eq i k).trans (vec1 (by omega))) (k0_off22_eq i)
    ((k0_off23_eq i k).trans rfl) (chk := k0_chk6 i) (fun v hv _ => row_inb hv) (offS := k0_off24) (fun _ => rfl)
    (hS := fun v hw => k0_off24_inb i v hw k0_h1) rfl fun _ _ => ?_
  refine row_step c T V 𝒱 bd hT (r := 16 * k.val + 6) hs (by omega) hi ((k0_off25_eq i k).trans (vec1 (by omega))) (k0_off26_eq i)
    ((k0_off27_eq i k).trans rfl) (chk := k0_chk7 i) (fun v hv _ => row_inb hv) (offS := k0_off28) (fun _ => rfl)
    (hS := fun v hw => k0_off28_inb i v hw k0_h1) rfl fun _ _ => ?_
  refine row_step c T V 𝒱 bd hT (r := 16 * k.val + 7) hs (by omega) hi ((k0_off29_eq i k).trans (vec1 (by omega))) (k0_off30_eq i)
    ((k0_off31_eq i k).trans rfl) (chk := k0_chk8 i) (fun v hv _ => row_inb hv) (offS := k0_off32) (fun _ => rfl)
    (hS := fun v hw => k0_off32_inb i v hw k0_h1) rfl fun _ _ => ?_
  refine row_step c T V 𝒱 bd hT (r := 16 * k.val + 8) hs (by omega) hi ((k0_off33_eq i k).trans (vec1 (by omega))) (k0_off34_eq i)
    ((k0_off35_eq i k).trans rfl) (chk := k0_chk9 i) (fun v hv _ => row_inb hv) (offS := k0_off36) (fun _ => rfl)
    (hS := fun v hw => k0_off36_inb i v hw k0_h1) rfl fun _ _ => ?_
  refine row_step c T V 𝒱 bd hT (r := 16 * k.val + 9) hs (by omega) hi ((k0_off37_eq i k).trans (vec1 (by omega))) (k0_off38_eq i)
    ((k0_off39_eq i k).trans rfl) (chk := k0_chk10 i) (fun v hv _ => row_inb hv) (offS := k0_off40) (fun _ => rfl)
    (hS := fun v hw => k0_off40_inb i v hw k0_h1) rfl fun _ _ => ?_
  refine row_step c T V 𝒱 bd hT (r := 16 * k.val + 10) hs (by omega) hi ((k0_off41_eq i k).trans (vec1 (by omega))) (k0_off42_eq i)
    ((k0_off43_eq i k).trans rfl) (chk := k0_chk11 i) (fun v hv _ => row_inb hv) (offS := k0_off44) (fun _ => rfl)
    (hS := fun v hw => k0_off44_inb i v hw k0_h1) rfl fun _ _ => ?_
  refine row_step c T V 𝒱 bd hT (r := 16 * k.val + 11) hs (by omega) hi ((k0_off45_eq i k).trans (vec1 (by omega))) (k0_off46_eq i)
    ((k0_off47_eq i k).trans rfl) (chk := k0_chk12 i) (fun v hv _ => row_inb hv) (offS := k0_off48) (fun _ => rfl)
    (hS := fun v hw => k0_off48_inb i v hw k0_h1) rfl fun _ _ => ?_
  refine row_step c T V 𝒱 bd hT (r := 16 * k.val + 12) hs (by omega) hi ((k0_off49_eq i k).trans (vec1 (by omega))) (k0_off50_eq i)
    ((k0_off51_eq i k).trans rfl) (chk := k0_chk13 i) (fun v hv _ => row_inb hv) (offS := k0_off52) (fun _ => rfl)
    (hS := fun v hw => k0_off52_inb i v hw k0_h1) rfl fun _ _ => ?_
  refine row_step c T V 𝒱 bd hT (r := 16 * k.val + 13) hs (by omega) hi ((k0_off53_eq i k).trans (vec1 (by omega))) (k0_off54_eq i)
    ((k0_off55_eq i k).trans rfl) (chk := k0_chk14 i) (fun v hv _ => row_inb hv) (offS := k0_off56) (fun _ => rfl)
    (hS := fun v hw => k0_off56_inb i v hw k0_h1) rfl fun _ _ => ?_
  refine row_step c T V 𝒱 bd hT (r := 16 * k.val + 14) hs (by omega) hi ((k0_off57_eq i k).trans (vec1 (by omega))) (k0_off58_eq i)
    ((k0_off59_eq i k).trans rfl) (chk := k0_chk15 i) (fun v hv _ => row_inb hv) (offS := k0_off60) (fun _ => rfl)
    (hS := fun v hw => k0_off60_inb i v hw k0_h1) rfl fun _ _ => ?_
  refine row_step c T V 𝒱 bd hT (r := 16 * k.val + 15) hs (by omega) hi ((k0_off61_eq i k).trans (vec1 (by omega))) (k0_off62_eq i)
    ((k0_off63_eq i k).trans rfl) (chk := k0_chk16 i) (fun v hv _ => row_inb hv) (offS := k0_off64) (fun _ => rfl)
    (hS := fun v hw => k0_off64_inb i v hw k0_h1) rfl fun _ _ => ?_
  rw [show 16 * (k.val + 1) = 16 * k.val + 15 + 1 by omega]
  exact BI.fupd_intro

/-- A trip of the second loop sends sixteen rows of the block after its own. -/
theorem trip2 [∀ e, Nonempty (Elt F e)] (𝒱 : Variants) (bd : Option 𝒱.V) (hT : ∀ n, word T n < 50000) (i : grid0.Coords) (k0_h2 : k0_cond2 i = 1#1)
    (hi : 32 * (i 0).val + (i 1).val + 1 < 64)
    {arg3 : Memref sig .tc .vmem S128x768 .f32} {arg4 : Memref sig .tc .vmem S768x768 .f32} {arg6 : Memref sig .tc .vmem S128x768 .f32}
    {ha2 ha3 ha4 ha5 ha6 ha7 ha8} (v : BitVec 32) (k : Fin k0_t2_loop.trips) (acc : Unit) :
    issued c T V (1 - (i 1).val % 2) (32 * (i 0).val + (i 1).val + 1) (16 * k.val) ⊢ wp frame (wpE (defs₀ (F := F)) 𝒱 (c : Thread nD τ) bd) Set.univ
      (k0_t2_body i idxM ha2 arg3 ha3 arg4 ha4 tabM ha5 arg6 ha6 scrM ha7 pckM ha8 cc0_scratch2 cc0_scratch3 k0_h2 v k acc)
      (fun _ => issued c T V (1 - (i 1).val % 2) (32 * (i 0).val + (i 1).val + 1) (16 * (k.val + 1))) := by
  have hk : k.val < 64 := lt_of_lt_of_le k.isLt k0_t2_abs.2.1
  have hs : 1 - (i 1).val % 2 < 2 := by omega
  refine row_step c T V 𝒱 bd hT (r := 16 * k.val + 0) hs (by omega) hi ((k0_off65_eq i k).trans (vec1 (by omega))) (k0_off66_eq i)
    ((k0_off67_eq i k).trans rfl) (chk := k0_chk17 i) (fun v hv _ => row_inb hv) (offS := k0_off68) (fun _ => rfl)
    (hS := fun v hw => k0_off68_inb i v hw k0_h2) rfl fun _ _ => ?_
  refine row_step c T V 𝒱 bd hT (r := 16 * k.val + 1) hs (by omega) hi ((k0_off69_eq i k).trans (vec1 (by omega))) (k0_off70_eq i)
    ((k0_off71_eq i k).trans rfl) (chk := k0_chk18 i) (fun v hv _ => row_inb hv) (offS := k0_off72) (fun _ => rfl)
    (hS := fun v hw => k0_off72_inb i v hw k0_h2) rfl fun _ _ => ?_
  refine row_step c T V 𝒱 bd hT (r := 16 * k.val + 2) hs (by omega) hi ((k0_off73_eq i k).trans (vec1 (by omega))) (k0_off74_eq i)
    ((k0_off75_eq i k).trans rfl) (chk := k0_chk19 i) (fun v hv _ => row_inb hv) (offS := k0_off76) (fun _ => rfl)
    (hS := fun v hw => k0_off76_inb i v hw k0_h2) rfl fun _ _ => ?_
  refine row_step c T V 𝒱 bd hT (r := 16 * k.val + 3) hs (by omega) hi ((k0_off77_eq i k).trans (vec1 (by omega))) (k0_off78_eq i)
    ((k0_off79_eq i k).trans rfl) (chk := k0_chk20 i) (fun v hv _ => row_inb hv) (offS := k0_off80) (fun _ => rfl)
    (hS := fun v hw => k0_off80_inb i v hw k0_h2) rfl fun _ _ => ?_
  refine row_step c T V 𝒱 bd hT (r := 16 * k.val + 4) hs (by omega) hi ((k0_off81_eq i k).trans (vec1 (by omega))) (k0_off82_eq i)
    ((k0_off83_eq i k).trans rfl) (chk := k0_chk21 i) (fun v hv _ => row_inb hv) (offS := k0_off84) (fun _ => rfl)
    (hS := fun v hw => k0_off84_inb i v hw k0_h2) rfl fun _ _ => ?_
  refine row_step c T V 𝒱 bd hT (r := 16 * k.val + 5) hs (by omega) hi ((k0_off85_eq i k).trans (vec1 (by omega))) (k0_off86_eq i)
    ((k0_off87_eq i k).trans rfl) (chk := k0_chk22 i) (fun v hv _ => row_inb hv) (offS := k0_off88) (fun _ => rfl)
    (hS := fun v hw => k0_off88_inb i v hw k0_h2) rfl fun _ _ => ?_
  refine row_step c T V 𝒱 bd hT (r := 16 * k.val + 6) hs (by omega) hi ((k0_off89_eq i k).trans (vec1 (by omega))) (k0_off90_eq i)
    ((k0_off91_eq i k).trans rfl) (chk := k0_chk23 i) (fun v hv _ => row_inb hv) (offS := k0_off92) (fun _ => rfl)
    (hS := fun v hw => k0_off92_inb i v hw k0_h2) rfl fun _ _ => ?_
  refine row_step c T V 𝒱 bd hT (r := 16 * k.val + 7) hs (by omega) hi ((k0_off93_eq i k).trans (vec1 (by omega))) (k0_off94_eq i)
    ((k0_off95_eq i k).trans rfl) (chk := k0_chk24 i) (fun v hv _ => row_inb hv) (offS := k0_off96) (fun _ => rfl)
    (hS := fun v hw => k0_off96_inb i v hw k0_h2) rfl fun _ _ => ?_
  refine row_step c T V 𝒱 bd hT (r := 16 * k.val + 8) hs (by omega) hi ((k0_off97_eq i k).trans (vec1 (by omega))) (k0_off98_eq i)
    ((k0_off99_eq i k).trans rfl) (chk := k0_chk25 i) (fun v hv _ => row_inb hv) (offS := k0_off100) (fun _ => rfl)
    (hS := fun v hw => k0_off100_inb i v hw k0_h2) rfl fun _ _ => ?_
  refine row_step c T V 𝒱 bd hT (r := 16 * k.val + 9) hs (by omega) hi ((k0_off101_eq i k).trans (vec1 (by omega))) (k0_off102_eq i)
    ((k0_off103_eq i k).trans rfl) (chk := k0_chk26 i) (fun v hv _ => row_inb hv) (offS := k0_off104) (fun _ => rfl)
    (hS := fun v hw => k0_off104_inb i v hw k0_h2) rfl fun _ _ => ?_
  refine row_step c T V 𝒱 bd hT (r := 16 * k.val + 10) hs (by omega) hi ((k0_off105_eq i k).trans (vec1 (by omega))) (k0_off106_eq i)
    ((k0_off107_eq i k).trans rfl) (chk := k0_chk27 i) (fun v hv _ => row_inb hv) (offS := k0_off108) (fun _ => rfl)
    (hS := fun v hw => k0_off108_inb i v hw k0_h2) rfl fun _ _ => ?_
  refine row_step c T V 𝒱 bd hT (r := 16 * k.val + 11) hs (by omega) hi ((k0_off109_eq i k).trans (vec1 (by omega))) (k0_off110_eq i)
    ((k0_off111_eq i k).trans rfl) (chk := k0_chk28 i) (fun v hv _ => row_inb hv) (offS := k0_off112) (fun _ => rfl)
    (hS := fun v hw => k0_off112_inb i v hw k0_h2) rfl fun _ _ => ?_
  refine row_step c T V 𝒱 bd hT (r := 16 * k.val + 12) hs (by omega) hi ((k0_off113_eq i k).trans (vec1 (by omega))) (k0_off114_eq i)
    ((k0_off115_eq i k).trans rfl) (chk := k0_chk29 i) (fun v hv _ => row_inb hv) (offS := k0_off116) (fun _ => rfl)
    (hS := fun v hw => k0_off116_inb i v hw k0_h2) rfl fun _ _ => ?_
  refine row_step c T V 𝒱 bd hT (r := 16 * k.val + 13) hs (by omega) hi ((k0_off117_eq i k).trans (vec1 (by omega))) (k0_off118_eq i)
    ((k0_off119_eq i k).trans rfl) (chk := k0_chk30 i) (fun v hv _ => row_inb hv) (offS := k0_off120) (fun _ => rfl)
    (hS := fun v hw => k0_off120_inb i v hw k0_h2) rfl fun _ _ => ?_
  refine row_step c T V 𝒱 bd hT (r := 16 * k.val + 14) hs (by omega) hi ((k0_off121_eq i k).trans (vec1 (by omega))) (k0_off122_eq i)
    ((k0_off123_eq i k).trans rfl) (chk := k0_chk31 i) (fun v hv _ => row_inb hv) (offS := k0_off124) (fun _ => rfl)
    (hS := fun v hw => k0_off124_inb i v hw k0_h2) rfl fun _ _ => ?_
  refine row_step c T V 𝒱 bd hT (r := 16 * k.val + 15) hs (by omega) hi ((k0_off125_eq i k).trans (vec1 (by omega))) (k0_off126_eq i)
    ((k0_off127_eq i k).trans rfl) (chk := k0_chk32 i) (fun v hv _ => row_inb hv) (offS := k0_off128) (fun _ => rfl)
    (hS := fun v hw => k0_off128_inb i v hw k0_h2) rfl fun _ _ => ?_
  rw [show 16 * (k.val + 1) = 16 * k.val + 15 + 1 by omega]
  exact BI.fupd_intro

end Trip

end Cert.Proof.Gather

end
-- ==== Proof.Slots.lean ====
/-
  A slot of the scratch through a block's life: free, its block in flight (one batch of 1024 transfers), and full
  once the one wait has drained the batch.
-/
module

public import proofs.«01_k».proof.Proof.Trips

@[expose] public section

noncomputable section

namespace Cert.Proof.Gather

open Cert.KernelIdeal Cert.KernelIdeal.Facts₀ Cert.KernelIdeal.Facts Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (T : S65536.Idx → BitVec 32) (V : S50000x1x768.Idx → F .f32)

/-- The slot's semaphore at zero. -/
abbrev cellZero (s : ℕ) : sProp 𝕄 := semVal ((c : Thread nD τ), SemLoc.dma (cell s)) 0

/-- Slot `s` free: its elements at some contents, its semaphore at zero, its half of the table's share. -/
def slotFree (s : ℕ) : sProp 𝕄 :=
  iprop((∃ f : S2x1024x1x768.Idx → F .f32, scrLoc c ↦[slotSet s]{fullShare} f) ∗ cellZero c s ∗ (tabLoc c ↦{half s} V))

/-- Block `b` in flight into slot `s`. -/
def slotFlying (s b : ℕ) : sProp 𝕄 :=
  iprop(bigSep Finset.univ (rowRest c T V s b) ∗ batch c T V s b 1024 ∗ (tabLoc c ↦{Transfers.shareDrop (half s) 1024} V))

/-- Slot `s` holding block `b` gathered. -/
def slotFull (s b : ℕ) : sProp 𝕄 :=
  iprop((scrLoc c ↦[slotSet s]{fullShare} (landed T V b : S2x1024x1x768.Idx → F .f32)) ∗ cellZero c s ∗ (tabLoc c ↦{half s} V))

/-- A full slot is free for the next block. -/
theorem slotFull_free (s b : ℕ) : slotFull c T V s b ⊢ slotFree c V s := by
  unfold slotFull slotFree
  iintro ⟨HS, HR⟩
  isplitl [HS]; · iexists _; iexact HS
  iexact HR

/-- A row at some contents and its part of the table's share are what its transfer needs; -/
theorem row_free (s : ℕ) (r : Fin 1024) (f : S2x1024x1x768.Idx → F .f32) :
    iprop((tabLoc c ↦{tok s r.val} V) ∗ (scrLoc c ↦[rowSet s r.val]{fullShare} f)) ⊢ (rowFree c V s r : sProp 𝕄) := by
  unfold rowFree
  iintro ⟨H, H'⟩
  isplitl [H]; · iexact H
  iexists f; iexact H'

/-- and the share it read with comes back whole. -/
theorem row_back (s b : ℕ) (r : Fin 1024) :
    iprop((tabLoc c ↦[tabRow (word T (1024 * b + r.val))]{tok s r.val} V) ∗ rowRest c T V s b r) ⊢ (tabLoc c ↦{tok s r.val} V : sProp 𝕄) := by
  unfold rowRest
  iintro ⟨H, H'⟩
  iapply (pointsTo_split_subset (q := tok s r.val) (f := V) (Finset.subset_univ (tabRow (word T (1024 * b + r.val))))).2
  isplitl [H]; · iexact H
  iexact H'

/-- A free slot is its 1024 rows free, with a part of the table's share left over. -/
theorem slotFree_start (s b : ℕ) :
    iprop((idxLoc c ↦{fullShare.right} T) ∗ slotFree c V s)
      ⊢ iprop(|={Set.univ}=> (issued c T V s b 0 ∗ (tabLoc c ↦{Transfers.shareDrop (half s) 1024} V))) := by
  unfold slotFree issued
  iintro ⟨HI, ⟨%f, HS⟩, HC, HT⟩
  imod (Transfers.batch_alloc' (countersEmb (U := Pipeline.UD sig nD τ)) (c := (c : Thread nD τ)) (sm := .dma (cell s)) () 96 (rowDone c T V s b) (E := Set.univ)) $$ HC with HB
  ihave HT' := (Transfers.pointsTo_toks (half s) 1024).1 $$ HT
  icases HT' with ⟨HT, HTs⟩
  ihave HS' := (Entails.of_eq (Ring.pointsTo_sub_blocks (ℓ := scrLoc c) (q := fullShare) (fun r : Fin 1024 => rowSet s r.val) (rowSet_disjoint s) (slotSet s) (rowSet_cover s) f)) $$ HS
  imodintro
  isplitr [HT]
  · isplitl [HI]; · iexact HI
    isplitl [HTs HS']
    · rw [Ring.rangeSet_univ]
      iapply (show iprop(bigSep Finset.univ (fun r : Fin 1024 => (tabLoc c ↦{tok s r.val} V : sProp 𝕄))
          ∗ bigSep Finset.univ (fun r : Fin 1024 => (scrLoc c ↦[rowSet s r.val]{fullShare} f : sProp 𝕄))) ⊢ bigSep Finset.univ (rowFree c V s) from
        (Entails.of_eq (bigSep_sep' _ _ _).symm).trans (BI.bigSep_mono fun r _ => row_free c V s r f))
      isplitl [HTs]; · iexact HTs
      iexact HS'
    isplitl []
    · rw [Ring.bigSep_rangeSet_empty (le_refl _)]; iempintro
    iexact HB
  iexact HT

/-- All rows issued: the block is in flight. -/
theorem issued_flying (s b : ℕ) :
    iprop(issued c T V s b 1024 ∗ (tabLoc c ↦{Transfers.shareDrop (half s) 1024} V))
      ⊢ iprop((idxLoc c ↦{fullShare.right} T) ∗ slotFlying c T V s b) := by
  unfold issued slotFlying
  rw [Ring.rangeSet_univ]
  iintro ⟨⟨HI, -, HR, HB⟩, HT⟩
  isplitl [HI]; · iexact HI
  isplitl [HR]; · iexact HR
  isplitl [HB]; · iexact HB
  iexact HT

/-- Every delivery, with what was kept back, is the slot full. -/
theorem rows_full (s b : ℕ) :
    iprop(bigSep Finset.univ (rowDone c T V s b) ∗ bigSep Finset.univ (rowRest c T V s b) ∗ cellZero c s
        ∗ (tabLoc c ↦{Transfers.shareDrop (half s) 1024} V))
      ⊢ slotFull c T V s b := by
  unfold slotFull
  iintro ⟨HD, HR, HC, HT⟩
  ihave HD' := (show bigSep Finset.univ (rowDone c T V s b) ⊢ iprop(
      bigSep Finset.univ (fun r : Fin 1024 => (scrLoc c ↦[rowSet s r.val]{fullShare} (landed T V b : S2x1024x1x768.Idx → F .f32) : sProp 𝕄))
      ∗ bigSep Finset.univ (fun r : Fin 1024 => (tabLoc c ↦[tabRow (word T (1024 * b + r.val))]{tok s r.val} V : sProp 𝕄))) from
    Entails.of_eq (bigSep_sep' _ _ _)) $$ HD
  icases HD' with ⟨HS, HV⟩
  isplitl [HS]
  · iapply (Entails.of_eq (Ring.pointsTo_sub_blocks (ℓ := scrLoc c) (q := fullShare) (fun r : Fin 1024 => rowSet s r.val) (rowSet_disjoint s) (slotSet s) (rowSet_cover s) (landed T V b : S2x1024x1x768.Idx → F .f32)).symm) $$ HS
  isplitl [HC]; · iexact HC
  iapply (Transfers.pointsTo_toks (half s) 1024).2
  isplitl [HT]; · iexact HT
  iapply (show iprop(bigSep Finset.univ (fun r : Fin 1024 => (tabLoc c ↦[tabRow (word T (1024 * b + r.val))]{tok s r.val} V : sProp 𝕄))
      ∗ bigSep Finset.univ (rowRest c T V s b)) ⊢ bigSep Finset.univ (fun r : Fin 1024 => (tabLoc c ↦{tok s r.val} V : sProp 𝕄)) from
    (Entails.of_eq (bigSep_sep' _ _ _).symm).trans (BI.bigSep_mono fun r _ => row_back c T V s b r))
  isplitl [HV]; · iexact HV
  iexact HR

/-- The view of slot `s` the drain waits through counts 1024 rows. -/
abbrev drainView (off : Fin 4 → ℕ) (h : ∀ a, off a + S1x1024x1x768.size a ≤ S2x1024x1x768.size a) : Memref sig .tc .vmem S1024x1x768 .f32 :=
  (scrM.slice (Rect.unit (s := S2x1024x1x768) off S1x1024x1x768.size h) (fun _ => rfl)).squeeze S1024x1x768 Facts₀.squeezes_S1x1024x1x768_S1024x1x768
theorem drain_credit (off : Fin 4 → ℕ) (h) : (drainView off h).view.dmaCredit = 98304 := by rfl

/-- The drain: one wait on the slot's semaphore hands back the block gathered. -/
theorem slot_drain [∀ e, Nonempty (Elt F e)] (𝒱 : Variants) (bd : Option 𝒱.V) {s b : ℕ} (hs : s < 2)
    {offC : Fin 1 → ℕ} (eC : offC = ![s]) {hC : ∀ a, offC a + S1.size a ≤ S2.size a}
    {off : Fin 4 → ℕ} {h : ∀ a, off a + S1x1024x1x768.size a ≤ S2x1024x1x768.size a}
    {src : Memref sig .tc .hbm S1024x1x768 .f32} {h1 : src.view.WordExact} {h2 : (drainView off h).view.WordExact}
    {α : Type} {Q : α → sProp 𝕄} {k : PUnit → Prog (TpuEff nD τ sig (Elt F) Λ₀ .tc) α} {W : Waits sig Unit} :
    iprop(slotFlying c T V s b ∗ owes (c : Thread nD τ) 0 W)
      ⊢ iprop((iprop(slotFull c T V s b ∗ owes (c : Thread nD τ) 0 (insert (SemLoc.dma (cell s), ()) W))
          -∗ wp frame (wpE (defs₀ (F := F)) 𝒱 (c : Thread nD τ) bd) Set.univ (k ⟨⟩) Q)
        -∗ wp frame (wpE (defs₀ (F := F)) 𝒱 (c : Thread nD τ) bd) Set.univ
          (.op (.waitDma2 (cellAt offC hC) src (drainView off h) h1 h2) k) Q) := by
  rw [cellAt_eq eC hs]
  have key := Transfers.wp_waitBatchAll (countersEmb (U := Pipeline.UD sig nD τ)) (defs := defs₀ (F := F)) 𝒱 (c : Thread nD τ) bd
    (srcw := src) (dstw := drainView off h) (hsrc := h1) (hdst := h2) (sem := cell s) (k := k) (Q := Q) () (N := 96) (drain_credit off h) (by decide)
    (D := rowDone c T V s b) (u := 0) (by decide) (W := W)
  unfold slotFlying
  iintro ⟨⟨HR, HB, HT⟩, HO⟩ HK
  iapply key $$ [HB HO]
  · isplitl [HB]; · iexact HB
    iexact HO
  iintro ⟨HD, HC, HO⟩
  iapply HK
  isplitr [HO]
  · iapply (rows_full c T V s b)
    isplitl [HD]; · iexact HD
    isplitl [HR]; · iexact HR
    isplitl [HC]; · iexact HC
    iexact HT
  iexact HO

end Cert.Proof.Gather

end
-- ==== Proof.Loops.lean ====
/-
  The two issue loops whole: from a free slot to its block in flight, and the copy of a full slot to the packed scratch.
-/
module

public import proofs.«01_k».proof.Proof.Slots
public import Idealize.ShloMosaic.Lib.VecWindow

@[expose] public section

noncomputable section

namespace Cert.Proof.Gather

open Cert.KernelIdeal Cert.KernelIdeal.Facts₀ Cert.KernelIdeal.Facts Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (T : S65536.Idx → BitVec 32) (V : S50000x1x768.Idx → F .f32)

/-- The first point of each half of the grid issues its own block; -/
theorem cond1_iff : ∀ i : grid0.Coords, k0_cond1 i = 1#1 ↔ (i 1).val = 0 := by decide +kernel
/-- every point but a half's last issues the next block. -/
theorem cond2_iff : ∀ i : grid0.Coords, k0_cond2 i = 1#1 ↔ (i 1).val + 1 < 32 := by decide +kernel

/-- The first loop, whole: slot free before, its block in flight after. -/
theorem loop1 [∀ e, Nonempty (Elt F e)] (𝒱 : Variants) (bd : Option 𝒱.V) (hT : ∀ n, word T n < 50000) (i : grid0.Coords) (k0_h1 : k0_cond1 i = 1#1)
    (hi : 32 * (i 0).val + (i 1).val < 64)
    {arg3 : Memref sig .tc .vmem S128x768 .f32} {arg4 : Memref sig .tc .vmem S768x768 .f32} {arg6 : Memref sig .tc .vmem S128x768 .f32}
    {ha2 ha3 ha4 ha5 ha6 ha7 ha8} (v : BitVec 32) (s b : ℕ) (es : s = (i 1).val % 2) (eb : b = 32 * (i 0).val + (i 1).val) :
    iprop((idxLoc c ↦{fullShare.right} T) ∗ slotFree c V s)
      ⊢ wp frame (wpE (defs₀ (F := F)) 𝒱 (c : Thread nD τ) bd) Set.univ
        (Scf.Loop.for k0_t1_loop (Facts₀.k0_t1_ok i k0_h1) ⟨⟩
          (k0_t1_body i idxM ha2 arg3 ha3 arg4 ha4 tabM ha5 arg6 ha6 scrM ha7 pckM ha8 cc0_scratch2 cc0_scratch3 k0_h1 v))
        (fun _ => iprop((idxLoc c ↦{fullShare.right} T) ∗ slotFlying c T V s b)) := by
  subst es eb
  iintro H
  imod (slotFree_start c T V ((i 1).val % 2) (32 * (i 0).val + (i 1).val)) $$ H with ⟨HI, HT⟩
  iapply (Scf.wp_for frame (wpE (defs₀ (F := F)) 𝒱 (c : Thread nD τ) bd) Set.univ k0_t1_loop.lb k0_t1_loop.ub k0_t1_loop.st
    (Facts₀.k0_t1_ok i k0_h1) ⟨⟩ _ (fun k _ => issued c T V ((i 1).val % 2) (32 * (i 0).val + (i 1).val) (16 * k))
    (fun k acc => trip1 c T V 𝒱 bd hT i k0_h1 hi v k acc))
  isplitl [HI]; · iexact HI
  iintro %acc HI
  iapply (issued_flying c T V ((i 1).val % 2) (32 * (i 0).val + (i 1).val))
  isplitl [HI]
  · iapply (show issued c T V ((i 1).val % 2) (32 * (i 0).val + (i 1).val) (16 * k0_t1_loop.trips) ⊢ issued c T V ((i 1).val % 2) (32 * (i 0).val + (i 1).val) 1024 from
      Entails.of_eq (by rw [show k0_t1_loop.trips = 64 from by decide])) $$ HI
  iexact HT

/-- The second loop, whole: the other slot free before, the next block in flight after. -/
theorem loop2 [∀ e, Nonempty (Elt F e)] (𝒱 : Variants) (bd : Option 𝒱.V) (hT : ∀ n, word T n < 50000) (i : grid0.Coords) (k0_h2 : k0_cond2 i = 1#1)
    (hi : 32 * (i 0).val + (i 1).val + 1 < 64)
    {arg3 : Memref sig .tc .vmem S128x768 .f32} {arg4 : Memref sig .tc .vmem S768x768 .f32} {arg6 : Memref sig .tc .vmem S128x768 .f32}
    {ha2 ha3 ha4 ha5 ha6 ha7 ha8} (v : BitVec 32) (s b : ℕ) (es : s = 1 - (i 1).val % 2) (eb : b = 32 * (i 0).val + (i 1).val + 1) :
    iprop((idxLoc c ↦{fullShare.right} T) ∗ slotFree c V s)
      ⊢ wp frame (wpE (defs₀ (F := F)) 𝒱 (c : Thread nD τ) bd) Set.univ
        (Scf.Loop.for k0_t2_loop (Facts₀.k0_t2_ok i k0_h2) ⟨⟩
          (k0_t2_body i idxM ha2 arg3 ha3 arg4 ha4 tabM ha5 arg6 ha6 scrM ha7 pckM ha8 cc0_scratch2 cc0_scratch3 k0_h2 v))
        (fun _ => iprop((idxLoc c ↦{fullShare.right} T) ∗ slotFlying c T V s b)) := by
  subst es eb
  iintro H
  imod (slotFree_start c T V (1 - (i 1).val % 2) (32 * (i 0).val + (i 1).val + 1)) $$ H with ⟨HI, HT⟩
  iapply (Scf.wp_for frame (wpE (defs₀ (F := F)) 𝒱 (c : Thread nD τ) bd) Set.univ k0_t2_loop.lb k0_t2_loop.ub k0_t2_loop.st
    (Facts₀.k0_t2_ok i k0_h2) ⟨⟩ _ (fun k _ => issued c T V (1 - (i 1).val % 2) (32 * (i 0).val + (i 1).val + 1) (16 * k))
    (fun k acc => trip2 c T V 𝒱 bd hT i k0_h2 hi v k acc))
  isplitl [HI]; · iexact HI
  iintro %acc HI
  iapply (issued_flying c T V (1 - (i 1).val % 2) (32 * (i 0).val + (i 1).val + 1))
  isplitl [HI]
  · iapply (show issued c T V (1 - (i 1).val % 2) (32 * (i 0).val + (i 1).val + 1) (16 * k0_t2_loop.trips)
        ⊢ issued c T V (1 - (i 1).val % 2) (32 * (i 0).val + (i 1).val + 1) 1024 from
      Entails.of_eq (by rw [show k0_t2_loop.trips = 64 from by decide])) $$ HI
  iexact HT

/-! ## The copy to the packed scratch -/

/-- Block `b` packed: row `r` is the table's row that word `1024 b + r` names. -/
def packed (b : ℕ) : S1024x768.Idx → F .f32 :=
  fun x => V (ix3 (rowOf T (1024 * b + (x 0).val)) 0 (x 1))

/-- The slot as the copy reads it. -/
abbrev slotView (off : Fin 4 → ℕ) (h : ∀ a, off a + S1x1024x1x768.size a ≤ S2x1024x1x768.size a) : Memref sig .tc .vmem S1024x768 .f32 :=
  (scrM.slice (Rect.unit (s := S2x1024x1x768) off S1x1024x1x768.size h) (fun _ => rfl)).squeeze S1024x768 Facts₀.squeezes_S1x1024x1x768_S1024x768

theorem slotView_set {s : ℕ} {off : Fin 4 → ℕ} (e : off = ![s, 0, 0, 0]) (h) : (slotView off h).view.set = slotSet s := by
  subst e
  refine (View.set_reshape _ _).trans ?_
  show ((View.whole cc0_scratch0).slice (Rect.unit (s := S2x1024x1x768) ![s, 0, 0, 0] S1x1024x1x768.size h)).set = _
  rw [View.set_slice_whole]
  ext i
  rw [Rect.mem_set_unit, mem_slotSet]
  have h1 : (i 1).val < 1024 := (i 1).isLt
  have h2 : (i 2).val < 1 := (i 2).isLt
  have h3 : (i 3).val < 768 := (i 3).isLt
  constructor
  · intro H
    have a0 := H 0
    simp [S1x1024x1x768] at a0
    omega
  · rintro rfl a
    fin_cases a
    · exact ⟨le_rfl, Nat.lt_succ_self _⟩
    · exact ⟨Nat.zero_le _, (show (i 1).val < 0 + 1024 by omega)⟩
    · exact ⟨Nat.zero_le _, h2⟩
    · exact ⟨Nat.zero_le _, (show (i 3).val < 0 + 768 by omega)⟩

/-- A slot holding block `b` gathered is read as block `b` packed. -/
theorem slotView_read {s b : ℕ} {off : Fin 4 → ℕ} (e : off = ![s, 0, 0, 0]) (h) :
    (slotView off h).view.read (Elt F) (landed T V b : S2x1024x1x768.Idx → F .f32) = packed T V b := by
  subst e
  funext x
  have hre : Shape.reshapeEquiv (s := S1x1024x1x768) (s' := S1024x768) Facts₀.squeezes_S1x1024x1x768_S1024x768.numel_eq x = ix4 0 (x 0) 0 (x 1) := by
    rw [eq_ix2 x]; pointwise
  show landed T V b ((Rect.unit (s := S2x1024x1x768) ![s, 0, 0, 0] S1x1024x1x768.size h).emb
    (Shape.reshapeEquiv Facts₀.squeezes_S1x1024x1x768_S1024x768.numel_eq x)) = _
  rw [hre]
  show V (ix3 (rowOf T (1024 * b + (0 + 1 * (x 0).val))) 0 ⟨0 + 1 * (x 1).val, _⟩) = V (ix3 (rowOf T (1024 * b + (x 0).val)) 0 (x 1))
  congr 2
  · congr 2; omega
  · exact Fin.ext (by show 0 + 1 * (x 1).val = (x 1).val; omega)

/-- The copy and its wait: the packed scratch holds the slot's block. -/
theorem slot_copy [∀ e, Nonempty (Elt F e)] (𝒱 : Variants) (bd : Option 𝒱.V) {s b : ℕ}
    {off : Fin 4 → ℕ} (eo : off = ![s, 0, 0, 0]) {h : ∀ a, off a + S1x1024x1x768.size a ≤ S2x1024x1x768.size a}
    {h1 h1' : (slotView off h).view.WordExact} {h2 h2' : pckM.view.WordExact}
    {h3 : DmaTarget.Typed (nD := nD) (p := (Proc.tc : Proc τ)) .vmem (.dma (7 : DmaSem sig)) (.here pckM)}
    {α : Type} {Q : α → sProp 𝕄} {k : PUnit → Prog (TpuEff nD τ sig (Elt F) Λ₀ .tc) α} {W : Waits sig Unit} :
    iprop(slotFull c T V s b ∗ (∃ f : S1024x768.Idx → F .f32, pckLoc c ↦{fullShare} f) ∗ semVal ((c : Thread nD τ), SemLoc.dma 7) 0 ∗ owes (c : Thread nD τ) 0 W)
      ⊢ iprop((iprop(slotFull c T V s b ∗ (pckLoc c ↦{fullShare} (packed T V b : S1024x768.Idx → F .f32))
              ∗ semVal ((c : Thread nD τ), SemLoc.dma 7) 0 ∗ owes (c : Thread nD τ) 0 (insert (SemLoc.dma 7, ()) W))
          -∗ wp frame (wpE (defs₀ (F := F)) 𝒱 (c : Thread nD τ) bd) Set.univ (k ⟨⟩) Q)
        -∗ wp frame (wpE (defs₀ (F := F)) 𝒱 (c : Thread nD τ) bd) Set.univ
          (.op (.enqueueDma (slotView off h) (.here pckM) (.dma (7 : DmaSem sig)) h1 h2 h3) fun _ =>
            .op (.waitDma2 (7 : DmaSem sig) (slotView off h) pckM h1' h2') k) Q) := by
  have hN : pckM.view.amount (.dma (7 : DmaSem sig)) = 98304 := by rfl
  have key := fun f K => Transfers.wp_dmaLocal (countersEmb (U := Pipeline.UD sig nD τ)) (defs := defs₀ (F := F)) 𝒱 (c : Thread nD τ) bd
    (src := slotView off h) (via := ReadAs.same) (hsrc := h1) (hdst := h2) (hsem := h3) (k := K) (Q := Q)
    (dst := pckM) (Sd := Finset.univ) (fs := (landed T V b : S2x1024x1x768.Idx → F .f32)) (fd := f) (q := fullShare)
    () 98304 hN (by decide) (Finset.subset_univ _)
  have hw : ∀ f : S1024x768.Idx → F .f32, pckM.view.write (Elt F) f (ReadAs.same.apply ((slotView off h).view.read (Elt F) (landed T V b : S2x1024x1x768.Idx → F .f32))) Finset.univ
      = (packed T V b : S1024x768.Idx → F .f32) := fun f => by
    rw [slotView_read T V eo h]
    exact View.write_whole_univ _ _ _
  rw [slotView_set eo h] at key
  unfold slotFull
  iintro ⟨⟨HS, HR⟩, ⟨%f, HP⟩, H7, HO⟩ HK
  iapply (key f _) $$ [HS HP H7]
  · isplitl [HS]; · iexact HS
    isplitl [HP]; · iexact HP
    iexact H7
  iintro HF
  iapply (Transfers.wp_waitLocal (countersEmb (U := Pipeline.UD sig nD τ)) (defs := defs₀ (F := F)) 𝒱 (c : Thread nD τ) bd
    (srcw := slotView off h) (dstw := pckM) (hsrc := h1') (hdst := h2') (sem := (7 : DmaSem sig)) (k := k) (Q := Q) () (N := 98304) rfl (W := W)) $$ [HF HO]
  · isplitl [HF]; · iexact HF
    iexact HO
  rw [hw f]
  iintro ⟨⟨HP, HS⟩, H7, HO⟩
  iapply HK
  isplitl [HS HR]
  · isplitl [HS]; · iexact HS
    iexact HR
  isplitl [HP]; · iexact HP
  isplitl [H7]; · iexact H7
  iexact HO

/-! ## Whole loads and stores of staging buffers -/

/-- A load of a whole memref reads what it holds. -/
theorem load_owns [∀ e, Nonempty (Elt F e)] (𝒱 : Variants) (bd : Option 𝒱.V) {s : Shape} {e : EltTy} (m : Memref sig .tc .vmem s e) {off : Fin s.rank → ℕ}
    {inb : ∀ a, off a + s.size a ≤ s.size a} {hl : m.view.LoadsAt (Rect.unit off s.size inb).toLoadRect} (X : s.Idx → Elt F e)
    {α : Type} {Q : α → sProp 𝕄} {k : (s.Idx → Elt F e) → Prog (TpuEff nD τ sig (Elt F) Λ₀ .tc) α} :
    owns (c : Thread nD τ) m fullShare X ⊢ iprop((owns (c : Thread nD τ) m fullShare X
        -∗ wp frame (wpE (defs₀ (F := F)) 𝒱 (c : Thread nD τ) bd) Set.univ (k X) Q)
      -∗ wp frame (wpE (defs₀ (F := F)) 𝒱 (c : Thread nD τ) bd) Set.univ (.op (.load m (Rect.unit off s.size inb).toLoadRect hl) k) Q) := by
  unfold owns
  iintro ⟨%f, %hf, H⟩ HK
  have hr : (m.access (Rect.unit off s.size inb)).read (Elt F) f = X := by
    rw [← hf]; exact View.readAt_full m.view f inb
  iapply (wp_load_rect (m := m) (r := Rect.unit off s.size inb) (S := m.view.set) (q := fullShare) (f := f)
    𝒱 (c : Thread nD τ) bd Set.univ (m.view.set_slice_subset _)) $$ H
  iintro H
  rw [hr]
  iapply HK
  iexists f
  isplitr; · ipureintro; exact hf
  iexact H

/-- A store over a whole memref leaves it at the stored value. -/
theorem store_owns [∀ e, Nonempty (Elt F e)] (𝒱 : Variants) (bd : Option 𝒱.V) {s : Shape} {e : EltTy} (m : Memref sig .tc .vmem s e) {off : Fin s.rank → ℕ}
    {inb : ∀ a, off a + s.size a ≤ s.size a} {w : s.Idx → Elt F e}
    {hx : (m.access (Rect.unit off s.size inb)).Stores Finset.univ} {hm} (X : s.Idx → Elt F e)
    {α : Type} {Q : α → sProp 𝕄} {k : PUnit → Prog (TpuEff nD τ sig (Elt F) Λ₀ .tc) α} :
    owns (c : Thread nD τ) m fullShare X ⊢ iprop((owns (c : Thread nD τ) m fullShare w
        -∗ wp frame (wpE (defs₀ (F := F)) 𝒱 (c : Thread nD τ) bd) Set.univ (k ⟨⟩) Q)
      -∗ wp frame (wpE (defs₀ (F := F)) 𝒱 (c : Thread nD τ) bd) Set.univ (.op (.store m (Rect.unit off s.size inb) w Finset.univ hx hm) k) Q) := by
  unfold owns
  iintro ⟨%f, %hf, H⟩ HK
  iapply (wp_store (m := m) (r := Rect.unit off s.size inb) (S := m.view.set) (f := f) (w := w) (hx := hx) (hm := hm)
    𝒱 (c : Thread nD τ) bd Set.univ (m.setOn_access_subset _ _)) $$ H
  iintro H
  iapply HK
  iexists _
  isplitr
  · ipureintro
    show m.view.read (Elt F) ((m.access (Rect.unit off s.size inb)).write (Elt F) f w Finset.univ) = w
    rw [← View.readAt_full m.view _ inb]
    exact View.read_write_univ (v := m.access (Rect.unit off s.size inb)) _ _
  iexact H

end Cert.Proof.Gather

end
-- ==== Proof.Body.lean ====
/-
  One grid point: it enters with its block in flight (or nothing, at the first point of a half), sends the next block,
  drains its own, copies it to the packed scratch, and stores the attention of its rows over it.
-/
module

public import proofs.«01_k».proof.Proof.Loops

@[expose] public section

noncomputable section

namespace Cert.Proof.Gather

open Cert.KernelIdeal Cert.KernelIdeal.Facts₀ Cert.KernelIdeal.Facts Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (T : S65536.Idx → BitVec 32) (V : S50000x1x768.Idx → F .f32)

/-- A conditional step before the rest of a program. -/
theorem if_step (𝒱 : Variants) (bd : Option 𝒱.V) {C : Prop} [Decidable C] {α β : Type} {P P' : sProp 𝕄} {Q : α → sProp 𝕄}
    {A : C → Prog (TpuEff nD τ sig (Elt F) Λ₀ .tc) β} {J : Prog (TpuEff nD τ sig (Elt F) Λ₀ .tc) α}
    (hA : ∀ h, P ⊢ wp frame (wpE (defs₀ (F := F)) 𝒱 (c : Thread nD τ) bd) Set.univ (A h) (fun _ => P'))
    (hN : ¬ C → (P ⊢ P'))
    (hJ : P' ⊢ wp frame (wpE (defs₀ (F := F)) 𝒱 (c : Thread nD τ) bd) Set.univ J Q) :
    P ⊢ wp frame (wpE (defs₀ (F := F)) 𝒱 (c : Thread nD τ) bd) Set.univ (if h : C then A h >>= fun _ => J else J) Q := by
  by_cases h : C
  · rw [dif_pos h, wp_bind]
    exact (hA h).trans (wp_mono _ _ _ fun _ => hJ)
  · rw [dif_neg h]
    exact (hN h).trans hJ

/-- What the slots hold as the point `j` of a half enters, its block being `b`: -/
def enter (j b : ℕ) : sProp 𝕄 :=
  iprop((if j = 0 then slotFree c V (j % 2) else slotFlying c T V (j % 2) b) ∗ slotFree c V (1 - j % 2))
/-- with its own block in flight; -/
def flown (j b : ℕ) : sProp 𝕄 := iprop(slotFlying c T V (j % 2) b ∗ slotFree c V (1 - j % 2))
/-- and the other slot once the next block is sent, where there is one in the half. -/
def ahead (j b : ℕ) : sProp 𝕄 :=
  if j + 1 < 32 then slotFlying c T V (1 - j % 2) (b + 1) else slotFree c V (1 - j % 2)

/-- What a point leaves is what the next enters with. -/
theorem leave_enter (j b : ℕ) (hj : j < 32) :
    iprop(slotFree c V (j % 2) ∗ ahead c T V j b) ⊢ enter c T V ((j + 1) % 32) (b + 1) := by
  unfold ahead enter
  by_cases h : j + 1 < 32
  · rw [if_pos h, Nat.mod_eq_of_lt h, if_neg (Nat.succ_ne_zero j), show (j + 1) % 2 = 1 - j % 2 by omega, show 1 - (1 - j % 2) = j % 2 by omega]
    exact sep_comm.1
  · obtain rfl : j = 31 := by omega
    rw [if_neg h, if_pos (by decide)]
    exact sep_comm.1

/-- The state around the two issue loops. -/
theorem issue_first [∀ e, Nonempty (Elt F e)] (𝒱 : Variants) (bd : Option 𝒱.V) (hT : ∀ n, word T n < 50000) (i : grid0.Coords) (k0_h1 : k0_cond1 i = 1#1)
    (hi : 32 * (i 0).val + (i 1).val < 64)
    {arg3 : Memref sig .tc .vmem S128x768 .f32} {arg4 : Memref sig .tc .vmem S768x768 .f32} {arg6 : Memref sig .tc .vmem S128x768 .f32}
    {ha2 ha3 ha4 ha5 ha6 ha7 ha8} (v : BitVec 32) (R : sProp 𝕄) :
    iprop((idxLoc c ↦{fullShare.right} T) ∗ enter c T V (i 1).val (32 * (i 0).val + (i 1).val) ∗ R)
      ⊢ wp frame (wpE (defs₀ (F := F)) 𝒱 (c : Thread nD τ) bd) Set.univ
        (Scf.Loop.for k0_t1_loop (Facts₀.k0_t1_ok i k0_h1) ⟨⟩
          (k0_t1_body i idxM ha2 arg3 ha3 arg4 ha4 tabM ha5 arg6 ha6 scrM ha7 pckM ha8 cc0_scratch2 cc0_scratch3 k0_h1 v))
        (fun _ => iprop((idxLoc c ↦{fullShare.right} T) ∗ flown c T V (i 1).val (32 * (i 0).val + (i 1).val) ∗ R)) := by
  unfold enter flown
  rw [if_pos ((cond1_iff i).1 k0_h1)]
  iintro ⟨HI, ⟨HS, HF⟩, HR⟩
  iapply (wp_wand frame (wpE (defs₀ (F := F)) 𝒱 (c : Thread nD τ) bd) Set.univ) $$ [HI HS]
  · iapply (loop1 c T V 𝒱 bd hT i k0_h1 hi v _ _ rfl rfl)
    isplitl [HI]; · iexact HI
    iexact HS
  iintro %a ⟨HI, HS⟩
  isplitl [HI]; · iexact HI
  isplitr [HR]
  · isplitl [HS]; · iexact HS
    iexact HF
  iexact HR

theorem issue_next [∀ e, Nonempty (Elt F e)] (𝒱 : Variants) (bd : Option 𝒱.V) (hT : ∀ n, word T n < 50000) (i : grid0.Coords) (k0_h2 : k0_cond2 i = 1#1)
    {arg3 : Memref sig .tc .vmem S128x768 .f32} {arg4 : Memref sig .tc .vmem S768x768 .f32} {arg6 : Memref sig .tc .vmem S128x768 .f32}
    {ha2 ha3 ha4 ha5 ha6 ha7 ha8} (v : BitVec 32) (R : sProp 𝕄) :
    iprop((idxLoc c ↦{fullShare.right} T) ∗ flown c T V (i 1).val (32 * (i 0).val + (i 1).val) ∗ R)
      ⊢ wp frame (wpE (defs₀ (F := F)) 𝒱 (c : Thread nD τ) bd) Set.univ
        (Scf.Loop.for k0_t2_loop (Facts₀.k0_t2_ok i k0_h2) ⟨⟩
          (k0_t2_body i idxM ha2 arg3 ha3 arg4 ha4 tabM ha5 arg6 ha6 scrM ha7 pckM ha8 cc0_scratch2 cc0_scratch3 k0_h2 v))
        (fun _ => iprop((idxLoc c ↦{fullShare.right} T) ∗ (slotFlying c T V ((i 1).val % 2) (32 * (i 0).val + (i 1).val)
          ∗ ahead c T V (i 1).val (32 * (i 0).val + (i 1).val)) ∗ R)) := by
  have h2 := (cond2_iff i).1 k0_h2
  have h0 : (i 0).val < 2 := (i 0).isLt
  unfold flown ahead
  rw [if_pos h2]
  iintro ⟨HI, ⟨HF, HS⟩, HR⟩
  iapply (wp_wand frame (wpE (defs₀ (F := F)) 𝒱 (c : Thread nD τ) bd) Set.univ) $$ [HI HS]
  · iapply (loop2 c T V 𝒱 bd hT i k0_h2 (by omega) v _ _ rfl rfl)
    isplitl [HI]; · iexact HI
    iexact HS
  iintro %a ⟨HI, HS⟩
  isplitl [HI]; · iexact HI
  isplitr [HR]
  · isplitl [HF]; · iexact HF
    iexact HS
  iexact HR

/-- The packed scratch held as a memref is its buffer held. -/
theorem pck_owns (f : S1024x768.Idx → F .f32) :
    (owns (c : Thread nD τ) pckM fullShare f : sProp 𝕄) ⊣⊢ (pckLoc c ↦{fullShare} (f : S1024x768.Idx → F .f32)) := by
  have h : (owns (c : Thread nD τ) pckM fullShare f : sProp 𝕄) = (pckLoc c ↦{fullShare} (f : S1024x768.Idx → F .f32)) := owns_whole ..
  exact ⟨Entails.of_eq h, Entails.of_eq h.symm⟩

/-- What a point computes from its rows of the hidden states, the weight and its packed block. -/
def blockOut (X : S128x768.Idx → F .f32) (Y : S768x768.Idx → F .f32) (b : ℕ) : S128x768.Idx → F .f32 :=
  k0_pay1 (k0_pay2 X Y) (k0_pay3 (packed T V b))

/-- A point's two waits: of its slot, and of the copy. -/
abbrev waits (s : ℕ) (W : Waits sig Unit) : Waits sig Unit := insert (SemLoc.dma 7, ()) (insert (SemLoc.dma (cell s), ()) W)

/-- The body up to the softmax. -/
theorem part11 [∀ e, Nonempty (Elt F e)] (𝒱 : Variants) (bd : Option 𝒱.V) (hT : ∀ n, word T n < 50000) (i : grid0.Coords)
    {arg3 : Memref sig .tc .vmem S128x768 .f32} {arg4 : Memref sig .tc .vmem S768x768 .f32} {arg6 : Memref sig .tc .vmem S128x768 .f32}
    {ha2 ha3 ha4 ha5 ha6 ha7 ha8} (X : S128x768.Idx → F .f32) (Y : S768x768.Idx → F .f32) (W : Waits sig Unit) (R : sProp 𝕄) :
    iprop((idxLoc c ↦{fullShare.right} T) ∗ enter c T V (i 1).val (32 * (i 0).val + (i 1).val)
        ∗ (owns (c : Thread nD τ) arg3 fullShare X ∗ owns (c : Thread nD τ) arg4 fullShare Y
          ∗ (∃ f : S1024x768.Idx → F .f32, pckLoc c ↦{fullShare} f) ∗ semVal ((c : Thread nD τ), SemLoc.dma 7) 0 ∗ owes (c : Thread nD τ) 0 W ∗ R))
      ⊢ wp frame (wpE (defs₀ (F := F)) 𝒱 (c : Thread nD τ) bd) Set.univ
        (k0_part11 i idxM ha2 arg3 ha3 arg4 ha4 tabM ha5 arg6 ha6 scrM ha7 pckM ha8 cc0_scratch2 cc0_scratch3)
        (fun v => iprop(⌜v = ⟨k0_pay2 X Y, k0_pay3 (packed T V (32 * (i 0).val + (i 1).val))⟩⌝
          ∗ (idxLoc c ↦{fullShare.right} T) ∗ enter c T V (((i 1).val + 1) % 32) (32 * (i 0).val + (i 1).val + 1)
          ∗ (owns (c : Thread nD τ) arg3 fullShare X ∗ owns (c : Thread nD τ) arg4 fullShare Y
          ∗ (∃ f : S1024x768.Idx → F .f32, pckLoc c ↦{fullShare} f) ∗ semVal ((c : Thread nD τ), SemLoc.dma 7) 0
          ∗ owes (c : Thread nD τ) 0 (waits ((i 1).val % 2) W) ∗ R))) := by
  have h0 : (i 0).val < 2 := (i 0).isLt
  have h1 : (i 1).val < 32 := (i 1).isLt
  have hs : (i 1).val % 2 < 2 := by omega
  rw [k0_part11_eq_skeleton]
  unfold k0_part11_skel
  refine if_step c 𝒱 bd (fun h => issue_first c T V 𝒱 bd hT i h (by omega) _ _) (fun h => ?_) ?_
  · unfold enter flown
    rw [if_neg (fun h' => h ((cond1_iff i).2 h'))]
  refine if_step c 𝒱 bd (fun h => issue_next c T V 𝒱 bd hT i h _ _) (fun h => ?_) ?_
  · unfold flown ahead
    rw [if_neg (fun h' => h ((cond2_iff i).2 h'))]
  iintro ⟨HI, ⟨HF, HA⟩, H3, H4, HP, H7, HO, HR⟩
  iapply (load_owns c 𝒱 bd arg3 X) $$ H3
  iintro H3
  iapply (load_owns c 𝒱 bd arg4 Y) $$ H4
  iintro H4
  iapply (slot_drain c T V 𝒱 bd hs (k0_off129_eq i) (W := W)) $$ [HF HO]
  · isplitl [HF]; · iexact HF
    iexact HO
  iintro ⟨HF, HO⟩
  iapply (slot_copy c T V 𝒱 bd (k0_off130_eq i)) $$ [HF HP H7 HO]
  · isplitl [HF]; · iexact HF
    isplitl [HP]; · iexact HP
    isplitl [H7]; · iexact H7
    iexact HO
  iintro ⟨HF, HP, H7, HO⟩
  iapply (load_owns c 𝒱 bd pckM (packed T V (32 * (i 0).val + (i 1).val))) $$ [HP]
  · iapply (pck_owns c (packed T V (32 * (i 0).val + (i 1).val))).2 $$ HP
  iintro HP
  rw [show ((Prog.ret (packed T V (32 * (i 0).val + (i 1).val))).bind fun v23 => Pure.pure ⟨k0_pay2 X Y, k0_pay3 v23⟩ :
      Prog (TpuEff nD τ sig (Elt F) Λ₀ .tc) (Σ' (v13 : FVec F S128x768 .f32), FVec F S128x8x768 .f32))
    = Prog.ret ⟨k0_pay2 X Y, k0_pay3 (packed T V (32 * (i 0).val + (i 1).val))⟩ from rfl, wp_ret]
  imodintro
  isplitr; · ipureintro; rfl
  isplitl [HI]; · iexact HI
  isplitl [HF HA]
  · iapply (leave_enter c T V (i 1).val _ h1)
    isplitl [HF]
    · iapply (slotFull_free c T V _ _) $$ HF
    iexact HA
  isplitl [H3]; · iexact H3
  isplitl [H4]; · iexact H4
  isplitl [HP]
  · iexists (packed T V (32 * (i 0).val + (i 1).val))
    iapply (pck_owns c (packed T V (32 * (i 0).val + (i 1).val))).1 $$ HP
  isplitl [H7]; · iexact H7
  isplitl [HO]; · iexact HO
  iexact HR

/-- One grid point, whole. -/
theorem point_run [∀ e, Nonempty (Elt F e)] (𝒱 : Variants) (bd : Option 𝒱.V) (hT : ∀ n, word T n < 50000) (i : grid0.Coords)
    {arg3 : Memref sig .tc .vmem S128x768 .f32} {arg4 : Memref sig .tc .vmem S768x768 .f32} {arg6 : Memref sig .tc .vmem S128x768 .f32}
    {ha2 ha3 ha4 ha5 ha6 ha7 ha8} (X : S128x768.Idx → F .f32) (Y : S768x768.Idx → F .f32) (Z : S128x768.Idx → F .f32) (W : Waits sig Unit) :
    iprop((idxLoc c ↦{fullShare.right} T) ∗ enter c T V (i 1).val (32 * (i 0).val + (i 1).val)
        ∗ (owns (c : Thread nD τ) arg3 fullShare X ∗ owns (c : Thread nD τ) arg4 fullShare Y
          ∗ (∃ f : S1024x768.Idx → F .f32, pckLoc c ↦{fullShare} f) ∗ semVal ((c : Thread nD τ), SemLoc.dma 7) 0 ∗ owes (c : Thread nD τ) 0 W
          ∗ owns (c : Thread nD τ) arg6 fullShare Z))
      ⊢ wp frame (wpE (defs₀ (F := F)) 𝒱 (c : Thread nD τ) bd) Set.univ
        (cc0__body i idxM ha2 arg3 ha3 arg4 ha4 tabM ha5 arg6 ha6 scrM ha7 pckM ha8 cc0_scratch2 cc0_scratch3)
        (fun _ => iprop((idxLoc c ↦{fullShare.right} T) ∗ enter c T V (((i 1).val + 1) % 32) (32 * (i 0).val + (i 1).val + 1)
          ∗ (owns (c : Thread nD τ) arg3 fullShare X ∗ owns (c : Thread nD τ) arg4 fullShare Y
          ∗ (∃ f : S1024x768.Idx → F .f32, pckLoc c ↦{fullShare} f) ∗ semVal ((c : Thread nD τ), SemLoc.dma 7) 0
          ∗ owes (c : Thread nD τ) 0 (waits ((i 1).val % 2) W)
          ∗ owns (c : Thread nD τ) arg6 fullShare (blockOut T V X Y (32 * (i 0).val + (i 1).val))))) := by
  rw [cc0__body_eq_skeleton]
  unfold cc0__body_skel
  rw [wp_bind]
  refine (part11 c T V 𝒱 bd hT i X Y W _).trans (wp_mono _ _ _ fun v => ?_)
  iintro ⟨%hv, HI, HE, H3, H4, HP, H7, HO, H6⟩
  subst hv
  iapply (load_owns c 𝒱 bd arg6 Z) $$ H6
  iintro H6
  iapply (store_owns c 𝒱 bd arg6 Z) $$ H6
  iintro H6
  rw [show ((Prog.ret PUnit.unit).bind fun _ => Pure.pure PUnit.unit : Prog (TpuEff nD τ sig (Elt F) Λ₀ .tc) PUnit) = Prog.ret ⟨⟩ from rfl, wp_ret]
  imodintro
  isplitl [HI]; · iexact HI
  isplitl [HE]; · iexact HE
  isplitl [H3]; · iexact H3
  isplitl [H4]; · iexact H4
  isplitl [HP]; · iexact HP
  isplitl [H7]; · iexact H7
  isplitl [HO]; · iexact HO
  iexact H6

end Cert.Proof.Gather

end
-- ==== Proof.Data.lean ====
/-
  The call's data: what the buffers hold as it begins, what each grid point leaves, and what is held between points.
-/
module

public import proofs.«01_k».proof.Proof.Body
public import proofs.«01_k».proof.Proof.Gen.KernelIdeal.Launch
public import Idealize.ShloMosaic.Lib.Pipeline.FrameBody
public import Idealize.ShloMosaic.Lib.Pipeline.FrameSuffixV

@[expose] public section

noncomputable section

namespace Cert.Proof.Gather

open Cert.KernelIdeal Cert.KernelIdeal.Facts₀ Cert.KernelIdeal.Facts Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ)

/-- What a core's buffers hold as the call begins. -/
def atCall (c : Dev nD) : Valuation τ sig (Elt F) := StableHlo.after [hostOps0 (F := F)].flatten (fun b => m (c, b))

/-- An argument's buffer holds what it held; -/
theorem atCall_arg (c : Dev nD) (b : Ref sig .tc) (h0 : b ≠ main_v0) (h1 : b ≠ main_v1) (h2 : b ≠ main_v2) :
    atCall m c (Proc.devRef .tc b) = m ((c : Thread nD τ).loc b) := by
  unfold atCall
  rw [show [hostOps0 (F := F)].flatten = hostOps0 from rfl, StableHlo.after_cons, StableHlo.after_cons, StableHlo.after_cons, StableHlo.after_nil,
    StableHlo.reshape_result_ne _ _ _ _ _ _ _ h2, StableHlo.reshape_result_ne _ _ _ _ _ _ _ h1, StableHlo.reshape_result_ne _ _ _ _ _ _ _ h0]

/-- the three copies the program makes hold the arguments in the kernel's shapes. -/
theorem atCall_rows (c : Dev nD) : atCall m c (Proc.devRef .tc main_v0)
    = shapeCast S65536 (m ((c : Thread nD τ).loc main_arg1) : S32x256x8.Idx → BitVec 32) Facts₀.shapeCasts_S32x256x8_S65536 := by
  unfold atCall
  rw [show [hostOps0 (F := F)].flatten = hostOps0 from rfl, StableHlo.after_cons, StableHlo.after_cons, StableHlo.after_cons, StableHlo.after_nil,
    StableHlo.reshape_result_ne _ _ _ _ _ _ _ (by decide), StableHlo.reshape_result_ne _ _ _ _ _ _ _ (by decide), StableHlo.reshape_result]
  rfl
theorem atCall_hidden (c : Dev nD) : atCall m c (Proc.devRef .tc main_v1)
    = shapeCast S8192x768 (m ((c : Thread nD τ).loc main_arg0) : S32x256x768.Idx → F .f32) Facts₀.shapeCasts_S32x256x768_S8192x768 := by
  unfold atCall
  rw [show [hostOps0 (F := F)].flatten = hostOps0 from rfl, StableHlo.after_cons, StableHlo.after_cons, StableHlo.after_cons, StableHlo.after_nil,
    StableHlo.reshape_result_ne _ _ _ _ _ _ _ (by decide), StableHlo.reshape_result, StableHlo.reshape_result_ne _ _ _ _ _ _ _ (by decide)]
  rfl
theorem atCall_vals (c : Dev nD) : atCall m c (Proc.devRef .tc main_v2)
    = shapeCast S50000x1x768 (m ((c : Thread nD τ).loc main_arg2) : S50000x768.Idx → F .f32) Facts₀.shapeCasts_S50000x768_S50000x1x768 := by
  unfold atCall
  rw [show [hostOps0 (F := F)].flatten = hostOps0 from rfl, StableHlo.after_cons, StableHlo.after_cons, StableHlo.after_cons, StableHlo.after_nil,
    StableHlo.reshape_result, StableHlo.reshape_result_ne _ _ _ _ _ _ _ (by decide), StableHlo.reshape_result_ne _ _ _ _ _ _ _ (by decide)]
  rfl

/-- The table of row numbers, -/
abbrev rowsT (c : Dev nD) : S65536.Idx → BitVec 32 := atCall m c (Proc.devRef .tc main_v0)
/-- and the rows. -/
abbrev valsV (c : Dev nD) : S50000x1x768.Idx → F .f32 := atCall m c (Proc.devRef .tc main_v2)

/-- The prefetched table's contents. -/
def adm : (p : Fin 1) → (pcfgs (F := F) p).Adm := fun _ => ⟨fun k => atCall m 0 (Proc.devRef .tc (pre0.ref k)), trivial⟩

/-- Held between points, `n` points done. -/
def between (c : Dev nD) (n : ℕ) : sProp 𝕄 :=
  iprop((idxLoc c ↦{fullShare.right} rowsT m c) ∗ enter c (rowsT m c) (valsV m c) (n % 32) n
    ∗ (∃ f : S1024x768.Idx → F .f32, pckLoc c ↦{fullShare} f) ∗ semVal ((c : Thread nD τ), SemLoc.dma 7) 0)

/-- The block of hidden rows, -/
def hidBlock (c : Dev nD) (t : Fin grid0.N) : S128x768.Idx → F .f32 :=
  ((win0 (adm m 0) 0).blk t).view.read (Elt F) (atCall m c (Proc.devRef .tc main_v1))
/-- and the weights, as point `t` finds them. -/
def wtBlock (c : Dev nD) (t : Fin grid0.N) : S768x768.Idx → F .f32 :=
  ((win0 (adm m 0) 1).blk t).view.read (Elt F) (atCall m c (Proc.devRef .tc main_arg3))

/-- The rows point `t` writes. -/
def outBlock (c : Dev nD) (t : Fin grid0.N) : S128x768.Idx → F .f32 :=
  blockOut (rowsT m c) (valsV m c) (hidBlock m c t) (wtBlock m c t) t.val

def dats (p : Fin 1) (c : Dev nD) : Dat τ (Elt F) Unit ℕ (Pipeline.UD sig nD τ) ℕ (Pipeline.pin (pcfgs (F := F)) (adm m) p) c where
  A w := atCall m c (Proc.devRef .tc (Pipeline.arrRef spec0 w))
  after w t := match w with
    | ⟨0, _⟩ => hidBlock m c t
    | ⟨1, _⟩ => wtBlock m c t
    | ⟨2, _⟩ => outBlock m c t
    | ⟨_ + 3, h⟩ => absurd h (Nat.not_lt.2 (Nat.le_add_left _ _))
  Φ n := between m c n.val
  q _ := fullShare
  owed _ := 0

theorem after_0 (c : Dev nD) (t : Fin grid0.N) : (dats m 0 c).after 0 t = hidBlock m c t := rfl
theorem after_1 (c : Dev nD) (t : Fin grid0.N) : (dats m 0 c).after 1 t = wtBlock m c t := rfl
theorem after_2 (c : Dev nD) (t : Fin grid0.N) : (dats m 0 c).after 2 t = outBlock m c t := rfl

/-- The two inputs' blocks are in their buffers at every point. -/
theorem before_0 (c : Dev nD) (t : Fin grid0.N) (d) : (dats m 0 c).before 0 t d = hidBlock m c t :=
  (dats m 0 c).before_in_eq_fetched 0 rfl (fun _ => rfl) (fun _ _ _ => rfl) (fun _ => rfl) t d
theorem before_1 (c : Dev nD) (t : Fin grid0.N) (d) : (dats m 0 c).before 1 t d = wtBlock m c t :=
  (dats m 0 c).before_in_eq_fetched 1 rfl (fun _ => rfl) (fun _ _ _ => rfl) (fun _ => rfl) t d

/-- The grid points in order. -/
theorem point_at : ∀ t : Fin grid0.N, (grid0.coords t 1).val = t.val % 32 ∧ 32 * (grid0.coords t 0).val + (grid0.coords t 1).val = t.val := by
  decide +kernel

theorem next_mod (n : ℕ) : (n % 32 + 1) % 32 = (n + 1) % 32 := by omega

/-- The call with its table's contents given. -/
abbrev call : Pipeline.Cfg sig Λ₀ := Pipeline.pin (pcfgs (F := F)) (adm m) 0
/-- The buffers a point works in. -/
abbrev arg3 (t : Fin grid0.N) : Memref sig .tc .vmem S128x768 .f32 := spec0_0.stage ((call m).slots t 0)
abbrev arg4 (t : Fin grid0.N) : Memref sig .tc .vmem S768x768 .f32 := spec0_1.stage ((call m).slots t 1)
abbrev arg6 (t : Fin grid0.N) : Memref sig .tc .vmem S128x768 .f32 := spec0_2.stage ((call m).slots t 2)

/-- The body at point `t`. -/
abbrev bodyAt (t : Fin grid0.N) : Prog (TpuEff nD τ sig (Elt F) Λ₀ .tc) PUnit :=
  cc0__body (grid0.coords t) idxM (Memref.isWhole_whole _) (arg3 m t) (Facts₀.hstage0_0 (((call m).slots t 0).cast Facts₀.nbuf0_0))
    (arg4 m t) (Facts₀.hstage0_1 (((call m).slots t 1).cast Facts₀.nbuf0_1)) tabM (Memref.isWhole_whole _) (arg6 m t) (Facts₀.hstage0_2 (((call m).slots t 2).cast Facts₀.nbuf0_2))
    scrM (Memref.isWhole_whole _) pckM (Memref.isWhole_whole _) cc0_scratch2 cc0_scratch3

theorem body_row (t : Fin grid0.N) : defs₀ (F := F) .tc (call m).body ((call m).bodyArgs t ((call m).slots t)) = bodyAt m t := by
  unfold defs₀; rw [Defs.onTc_tc]

theorem point_ok [∀ e, Nonempty (Elt F e)] (c : Dev nD) (hT : ∀ n, word (rowsT m c) n < 50000) (t : Fin grid0.N) :
    iprop(between m c t.val ∗ (dats m 0 c).owesAt () t.castSucc
      ∗ (∃ d, owns (c : Thread nD τ) (arg3 m t) fullShare ((dats m 0 c).before 0 t d))
      ∗ (∃ d, owns (c : Thread nD τ) (arg4 m t) fullShare ((dats m 0 c).before 1 t d))
      ∗ (∃ d, owns (c : Thread nD τ) (arg6 m t) fullShare ((dats m 0 c).before 2 t d)))
    ⊢ wp frame (wpE (defs₀ (F := F)) Variants.none (c : Thread nD τ) none) Set.univ (bodyAt m t) fun _ =>
      iprop(between m c (t.val + 1) ∗ (dats m 0 c).owesAt () t.succ
      ∗ owns (c : Thread nD τ) (arg3 m t) fullShare ((dats m 0 c).after 0 t)
      ∗ owns (c : Thread nD τ) (arg4 m t) fullShare ((dats m 0 c).after 1 t)
      ∗ owns (c : Thread nD τ) (arg6 m t) fullShare ((dats m 0 c).after 2 t)) := by
  obtain ⟨h1, h2⟩ := point_at t
  rw [after_0, after_1, after_2]
  simp only [before_0, before_1]
  unfold between Dat.owesAt Pipeline.owesWithin
  iintro ⟨⟨HI, HE, HP, H7⟩, ⟨%W, %hW, HO⟩, ⟨%d0, H0⟩, ⟨%d1, H1⟩, ⟨%d2, H2⟩⟩
  have key := point_run c (rowsT m c) (valsV m c) Variants.none none hT (grid0.coords t) (arg3 := arg3 m t) (arg4 := arg4 m t) (arg6 := arg6 m t)
    (ha2 := Memref.isWhole_whole _) (ha3 := Facts₀.hstage0_0 (((call m).slots t 0).cast Facts₀.nbuf0_0)) (ha4 := Facts₀.hstage0_1 (((call m).slots t 1).cast Facts₀.nbuf0_1))
    (ha5 := Memref.isWhole_whole _) (ha6 := Facts₀.hstage0_2 (((call m).slots t 2).cast Facts₀.nbuf0_2)) (ha7 := Memref.isWhole_whole _) (ha8 := Memref.isWhole_whole _)
    (hidBlock m c t) (wtBlock m c t) ((dats m 0 c).before 2 t d2) W
  rw [h2, h1, next_mod] at key
  iapply (wp_wand frame (wpE (defs₀ (F := F)) Variants.none (c : Thread nD τ) none) Set.univ) $$ [HI HE HP H7 HO H0 H1 H2]
  · iapply key
    isplitl [HI]; · iexact HI
    isplitl [HE]; · iexact HE
    isplitl [H0]; · iexact H0
    isplitl [H1]; · iexact H1
    isplitl [HP]; · iexact HP
    isplitl [H7]; · iexact H7
    isplitl [HO]; · iexact HO
    iexact H2
  iintro %v ⟨HI, HE, H0, H1, HP, H7, HO, H2⟩
  isplitl [HI HE HP H7]
  · isplitl [HI]; · iexact HI
    isplitl [HE]; · iexact HE
    isplitl [HP]; · iexact HP
    iexact H7
  isplitl [HO]
  · iexists (waits (t.val % 32 % 2) W)
    isplitr
    · ipureintro; exact fun _ _ => Or.inl trivial
    iexact HO
  isplitl [H0]; · iexact H0
  isplitl [H1]; · iexact H1
  iexact H2

theorem keep_here (c : Dev nD) (t : Fin grid0.N) : (dats m 0 c).Φ t.castSucc = between m c t.val :=
  Dat.Φ_castSucc (fun n _ => between m c n) t
theorem keep_next (c : Dev nD) (t : Fin grid0.N) : (dats m 0 c).Φ t.succ = between m c (t.val + 1) :=
  congrArg (between m c) (Fin.val_succ t)

theorem body_ok [∀ e, Nonempty (Elt F e)] (c : Dev nD) (hT : ∀ n, word (rowsT m c) n < 50000) :
    BodyObligation (dats m 0 c) (defs₀ (F := F)) Variants.none () Set.univ := fun t => by
  rw [bigSep_W0, bigSep_W0, body_row, keep_here, keep_next]
  exact triple_restated (point_ok m c hT t) rfl .rfl fun _ => .rfl

end Cert.Proof.Gather

end
-- ==== Proof.Launch.lean ====
/-
  The whole program: what the launch hands the call and gets back, and the run with what the buffers hold at the end.
-/
module

public import proofs.«01_k».proof.Proof.Data

@[expose] public section

noncomputable section

namespace Cert.Proof.Gather

open Cert.KernelIdeal Cert.KernelIdeal.Facts₀ Cert.KernelIdeal.Facts Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ)

/-- The kernel's own semaphores: one a slot, and the copy's. -/
abbrev ownCells : Fin 3 → SemLoc sig := fun j => (![SemLoc.dma 5, SemLoc.dma 6, SemLoc.dma 7] : Fin 3 → SemLoc sig) j
theorem ownCells_ok : Pipeline.OwnSemFacts spec0 ownCells := by decide
theorem ownCells_eq (c : Dev nD) :
    (Pipeline.ownSems0 (Ix := Unit) (Name := ℕ) (U := Pipeline.UD sig nD τ) (Lvl := ℕ) (Val := Elt F) (τ := τ) ownCells c : sProp 𝕄)
      = iprop(cellZero c 0 ∗ cellZero c 1 ∗ semVal ((c : Thread nD τ), SemLoc.dma 7) 0) := by
  rw [Pipeline.ownSems0_eq_of_list c ownCells [0, 1, 2] (by decide) (by decide)]; rfl

/-- The buffer the kernel reads by its own transfers. -/
abbrev readBufs : Finset (Ref sig .tc) := {main_v2}

theorem readBufs_eq (c : Dev nD) (V : (b : Ref sig .tc) → Buf (Elt F) ((c.tc : Thread nD τ).loc b)) :
    (bigSep readBufs fun b => ((c.tc : Thread nD τ).loc b) ↦{fullShare} V b : sProp 𝕄)
      = (tabLoc c ↦{fullShare} (V main_v2 : S50000x1x768.Idx → F .f32)) := by
  rw [bigSep_singleton]

theorem noBufs_eq (Φ : Ref sig .tc → sProp 𝕄) : bigSep (∅ : Finset (Ref sig .tc)) Φ = iprop(emp) := bigSep_empty

/-- The scratch whole is its two slots, -/
theorem scr_split (c : Dev nD) (f : S2x1024x1x768.Idx → F .f32) :
    (scrLoc c ↦{fullShare} f : sProp 𝕄) ⊢ iprop((scrLoc c ↦[slotSet 0]{fullShare} f) ∗ (scrLoc c ↦[slotSet 1]{fullShare} f)) := by
  have h := (pointsTo_union (ℓ := scrLoc c) (q := fullShare) (f := f) (slotSet_disjoint 0 1 (by decide)) : (_ : sProp 𝕄) ⊣⊢ _).1
  rw [slotSet_cover] at h
  exact h
/-- whatever each holds. -/
theorem scr_join (c : Dev nD) (f g : S2x1024x1x768.Idx → F .f32) :
    iprop((scrLoc c ↦[slotSet 0]{fullShare} f) ∗ (scrLoc c ↦[slotSet 1]{fullShare} g))
      ⊢ (iprop(∃ h : S2x1024x1x768.Idx → F .f32, scrLoc c ↦{fullShare} h) : sProp 𝕄) := by
  have h := (pointsTo_join (ℓ := scrLoc c) (q := fullShare) (f := f) (g := g) (slotSet_disjoint 0 1 (by decide)) : (_ : sProp 𝕄) ⊢ _)
  rw [slotSet_cover] at h
  refine h.trans ?_
  iintro H
  iexists _
  iexact H

/-- The rows whole are the two slots' shares of them. -/
theorem tab_halves (c : Dev nD) (V : S50000x1x768.Idx → F .f32) :
    (tabLoc c ↦{fullShare} V : sProp 𝕄) ⊣⊢ iprop((tabLoc c ↦{half 0} V) ∗ (tabLoc c ↦{half 1} V)) :=
  pointsTo_share (PosShare.mem_left_op_right fullShare)

theorem enter_zero (c : Dev nD) (T : S65536.Idx → BitVec 32) (V : S50000x1x768.Idx → F .f32) (b : ℕ) :
    (enter c T V 0 b : sProp 𝕄) = iprop(slotFree c V 0 ∗ slotFree c V 1) := rfl

/-- What the launch hands over is what the first point enters with; -/
theorem start_ok (c : Dev nD) :
    iprop(Pipeline.ΦDRV ownCells spec0 readBufs ∅ (fun c b => atCall m c (Proc.devRef .tc b)) (fun c b => atCall m c (Proc.devRef .tc b)) c
        ∗ (idxLoc c ↦{fullShare.right} rowsT m c)) ⊢ between m c 0 := by
  unfold Pipeline.ΦDRV between
  rw [scopedRest0_eq, ownCells_eq, readBufs_eq, noBufs_eq, enter_zero]
  unfold slotFree
  iintro ⟨⟨⟨⟨%f, HS⟩, HP⟩, ⟨H5, H6, H7⟩, HV, -⟩, HI⟩
  ihave HS' := (scr_split c f) $$ HS
  icases HS' with ⟨HS0, HS1⟩
  ihave HV' := (tab_halves c (valsV m c)).1 $$ HV
  icases HV' with ⟨HV0, HV1⟩
  isplitl [HI]; · iexact HI
  isplitl [HS0 HS1 H5 H6 HV0 HV1]
  · isplitl [HS0 H5 HV0]
    · isplitl [HS0]; · iexists f; iexact HS0
      isplitl [H5]; · iexact H5
      iexact HV0
    · isplitl [HS1]; · iexists f; iexact HS1
      isplitl [H6]; · iexact H6
      iexact HV1
  isplitl [HP]; · iexact HP
  iexact H7

/-- and what the last leaves is what the launch takes back. -/
theorem finish_ok (c : Dev nD) :
    between m c 64
      ⊢ Pipeline.ΦDRV ownCells spec0 readBufs ∅ (fun c b => atCall m c (Proc.devRef .tc b)) (fun c b => atCall m c (Proc.devRef .tc b)) c := by
  unfold Pipeline.ΦDRV between
  rw [scopedRest0_eq, ownCells_eq, readBufs_eq, noBufs_eq, show 64 % 32 = 0 from rfl, enter_zero]
  unfold slotFree
  iintro ⟨-, ⟨⟨⟨%f, HS0⟩, H5, HV0⟩, ⟨%g, HS1⟩, H6, HV1⟩, HP, H7⟩
  isplitl [HS0 HS1 HP]
  · isplitl [HS0 HS1]
    · iapply (scr_join c f g)
      isplitl [HS0]; · iexact HS0
      iexact HS1
    iexact HP
  isplitl [H5 H6 H7]
  · isplitl [H5]; · iexact H5
    isplitl [H6]; · iexact H6
    iexact H7
  isplitl [HV0 HV1]
  · iapply (tab_halves c (valsV m c)).2
    isplitl [HV0]; · iexact HV0
    iexact HV1
  iempintro

theorem table_held (c : Dev nD) : (Pipeline.ΦT pre0 ((adm m) 0).1 c : sProp 𝕄) ⊢ (idxLoc c ↦{fullShare.right} rowsT m c) := by
  obtain rfl : c = 0 := Subsingleton.elim _ _
  unfold Pipeline.ΦT Pipeline.prefHeld
  rw [show (Finset.univ : Finset (Fin 1)) = {0} from rfl, bigSep_singleton]
  exact .rfl

theorem rest_of (b : Ref sig .tc) (hs : b.isScoped = false) (ha : ∀ w, (spec0 w).arr.view.ref ≠ b) (hp : b ≠ main_v0) :
    b ∈ Pipeline.restRefsP sig pre0 spec0 :=
  Finset.mem_sdiff.2 ⟨Pipeline.mem_restRefs_of b hs ha, by
    rw [Finset.mem_image]; rintro ⟨k, -, h⟩
    obtain rfl : k = 0 := Subsingleton.elim _ _
    exact hp h.symm⟩

/-- Up to the call, and from it. -/
theorem around : Pipeline.HMainPK (Ix := Unit) (Name := ℕ) (U := Pipeline.UD sig nD τ) (Lvl := ℕ) (pcfgs (F := F)) 0 defs₀ Variants.none m main
    (fun c b => atCall m c (Proc.devRef .tc b)) (fun _ => Pipeline.chain ([hostOps1 (F := F)].map StableHlo.seq)) := by
  refine Pipeline.hmainP_around (pcfgs (F := F)) 0 defs₀ Variants.none m main [hostOps0] [hostOps1] ?_ ?_ fun c => main_chain c
  · exact hostOps0_sub
  · exact ⟨rfl, rfl, rfl⟩

/-- What the call leaves in its result. -/
def called (c : Dev nD) : S8192x768.Idx → F .f32 := (dats m 0 c).arrAt 2 (call m).N

/-- The buffers as the call ends. -/
abbrev atEnd (c : Dev nD) : Valuation τ sig (Elt F) :=
  Pipeline.withArrays spec0 c (Pipeline.withR (atCall m c) ∅ c fun b => atCall m c (Proc.devRef .tc b)) fun w => (dats m 0 c).arrAt w (call m).N

theorem table_untouched : ∀ k : Fin 1, Proc.devRef (τ := τ) .tc (pre0.ref k) ∉ ({Proc.devRef .tc main_v3, Proc.devRef .tc main_v4} : Finset (DevRef τ sig)) := by
  decide
theorem arrays_unwritten : ∀ w : Fin 3, Proc.devRef (τ := τ) .tc (Pipeline.arrRef spec0 w) ∉ ({Proc.devRef .tc main_v4} : Finset (DevRef τ sig)) := by
  decide

theorem run_all [∀ e, Nonempty (Elt F e)] (g : Dev nD → PrngReg) (hT : ∀ c n, word (rowsT m c) n < 50000) :
    θ_run (defs (F := F)) (onTc (τ := τ) main) ⟨m, fun _ => 0, g⟩ (fun r =>
      (∀ c : Dev nD, (∀ w, r.2.mem ((spec0 w).arr.view.loc (c.tc : Thread nD τ)) = (dats m 0 c).arrAt w (call m).N)
        ∧ ∀ b ∈ Pipeline.restRefsP sig pre0 spec0, r.2.mem ((c.tc : Thread nD τ).loc b)
          = StableHlo.after [hostOps1 (F := F)].flatten (atEnd m c) (Proc.devRef .tc b))
      ∧ r.2.sem = fun _ => 0) :=
  Pipeline.θ_run_frameP_dmaR_aroundV (pcfgs (F := F)) (adm m) (dats m) 0 launch0 (Q' := _) ownCells defs₀ Variants.none ownCells_ok readBufs ∅
    (hH := Finset.singleton_subset_iff.2 (rest_of main_v2 (by decide) (by decide) (by decide))) (hR := Finset.empty_subset _) m g main
    (hbody := fun c => (body_ok m c (hT c)).loose) (hshare := fun c => (dats m 0 c).share_full fun _ => rfl) (howed := fun _ _ => rfl)
    (V₀ := atCall m) (opss := [hostOps1])
    (hsub := by
      intro ops h op h'
      obtain rfl := List.mem_singleton.1 h
      obtain rfl := List.mem_singleton.1 h'
      exact Pipeline.sub_tailRefs pre0 spec0 _ (StableHlo.reshape_bufs_sub ..) (by
        rw [StableHlo.reshape_bufs]; exact table_untouched))
    (hfresh := by
      intro ops h op h'
      obtain rfl := List.mem_singleton.1 h
      obtain rfl := List.mem_singleton.1 h'
      rfl)
    (hkeep := by
      intro ops h op h'
      obtain rfl := List.mem_singleton.1 h
      obtain rfl := List.mem_singleton.1 h'
      rw [StableHlo.reshape_writes]; exact arrays_unwritten)
    (G := fun c b => atCall m c (Proc.devRef .tc b)) (hmain := around m) (hA := fun _ _ => rfl)
    (hpf := fun c k => by obtain rfl : c = 0 := Subsingleton.elim _ _; rfl)
    (hin := fun c => (sep_mono .rfl (table_held m c)).trans (start_ok m c)) (hout := fun c => finish_ok m c)
    (hQ' := fun _ h => h)

/-- The result and the arguments as the program ends. -/
theorem run [∀ e, Nonempty (Elt F e)] (g : Dev nD → PrngReg) (hT : ∀ c n, word (rowsT m c) n < 50000) :
    θ_run (defs (F := F)) (onTc (τ := τ) main) ⟨m, fun _ => 0, g⟩ (fun r =>
      (∀ c : Dev nD, r.2.mem ((c.tc : Thread nD τ).loc main_v4) = shapeCast S32x256x768 (called m c) Facts₀.shapeCasts_S8192x768_S32x256x768
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) := by
  refine (θ_run defs _ _).mono (fun r h => ⟨fun c => ?_, h.2⟩) (run_all m g hT)
  obtain ⟨hw, hb⟩ := h.1 c
  have hend : ∀ b : Ref sig .tc, (∀ w, Pipeline.arrRef spec0 w ≠ b) → atEnd m c (Proc.devRef .tc b) = atCall m c (Proc.devRef .tc b) := fun b h =>
    (Pipeline.withArrays_of_ne spec0 c _ _ b h).trans (Pipeline.withR_of_not_mem _ _ c _ b (Finset.notMem_empty b))
  refine ⟨?_, ?_, ?_, ?_, ?_⟩
  · rw [hb main_v4 (rest_of _ (by decide) (by decide) (by decide))]
    show StableHlo.after [hostOps1 (F := F)].flatten (atEnd m c) (Proc.devRef .tc main_v4) = _
    rw [show [hostOps1 (F := F)].flatten = hostOps1 from rfl, StableHlo.after_cons, StableHlo.after_nil, StableHlo.reshape_result]
    rw [show atEnd m c (Proc.devRef .tc main_v3) = called m c from Pipeline.withArrays_arr spec0 winFacts0.arr_inj c _ _ 2]
    rfl
  · rw [hb main_arg0 (rest_of _ (by decide) (by decide) (by decide)),
      show [hostOps1 (F := F)].flatten = hostOps1 from rfl, StableHlo.after_cons, StableHlo.after_nil, StableHlo.reshape_result_ne _ _ _ _ _ _ _ (by decide),
      hend main_arg0 (by decide)]
    exact atCall_arg m c _ (by decide) (by decide) (by decide)
  · rw [hb main_arg1 (rest_of _ (by decide) (by decide) (by decide)),
      show [hostOps1 (F := F)].flatten = hostOps1 from rfl, StableHlo.after_cons, StableHlo.after_nil, StableHlo.reshape_result_ne _ _ _ _ _ _ _ (by decide),
      hend main_arg1 (by decide)]
    exact atCall_arg m c _ (by decide) (by decide) (by decide)
  · rw [hb main_arg2 (rest_of _ (by decide) (by decide) (by decide)),
      show [hostOps1 (F := F)].flatten = hostOps1 from rfl, StableHlo.after_cons, StableHlo.after_nil, StableHlo.reshape_result_ne _ _ _ _ _ _ _ (by decide),
      hend main_arg2 (by decide)]
    exact atCall_arg m c _ (by decide) (by decide) (by decide)
  · refine (hw 1).trans (((dats m 0 c).arrAt_in 1 rfl _).trans ?_)
    show atCall m c (Proc.devRef .tc main_arg3) = _
    exact atCall_arg m c _ (by decide) (by decide) (by decide)

end Cert.Proof.Gather

end
-- ==== Proof.Range.lean ====
/-
  The claims' condition read back: every index names a row of the table, in the kernel's table of row numbers too.
-/
module

public import proofs.«01_k».proof.Proof.Data
public import proofs.«01_k».proof.Proof.Gen.Pre_index_range
public import Idealize.ShloMosaic.Lib.ReduceAll
public import Idealize.ShloMosaic.Lib.StableHlo.Predicate

@[expose] public section

noncomputable section

namespace Cert.Proof.Gather

open Cert.KernelIdeal
open Idealize.ShloMosaic Idealize.ShloMosaic.TcCoe

variable {F : FTy → Type} [FloatOps F]

/-- A word between 0 and 50000, compared as signed, is below 50000. -/
theorem word_small (w : BitVec 32) (h : IntOp.andi (IntOp.cmpi .sge w 0#32) (IntOp.cmpi .slt w 50000#32) = 1#1) : w.toNat < 50000 := by
  have e : (0#32).sle w = true ∧ w.slt 50000#32 = true := by
    have h' : BitVec.ofBool ((0#32).sle w) &&& BitVec.ofBool (w.slt 50000#32) = 1#1 := h
    revert h'
    cases (0#32).sle w <;> cases w.slt 50000#32 <;> decide
  obtain ⟨h0, h1⟩ := e
  rw [BitVec.sle, decide_eq_true_eq] at h0
  rw [BitVec.slt, decide_eq_true_eq] at h1
  rw [show (0#32).toInt = 0 from by decide, BitVec.toInt_eq_toNat_cond] at h0
  rw [show (50000#32).toInt = 50000 from by decide, BitVec.toInt_eq_toNat_cond] at h1
  have := w.isLt
  split at h0 <;> omega

theorem index_small [Cert.Pre_index_range.Facts] (a0 : FVec F Cert.Pre_index_range.S32x256x768 .f32) (a1 : IVec Cert.Pre_index_range.S32x256x8 32)
    (a2 : FVec F Cert.Pre_index_range.S50000x768 .f32) (a3 : FVec F Cert.Pre_index_range.S768x768 .f32)
    (h : Cert.Pre_index_range.fn a0 a1 a2 a3 = fun _ => 1#1) (i : Cert.Pre_index_range.S32x256x8.Idx) : (a1 i).toNat < 50000 := by
  have e := congrFun h (fun a => a.elim0)
  unfold Cert.Pre_index_range.fn at e
  exact word_small (a1 i) (Host.reduce_andi_all _ _ _ _ _ e i)

theorem rows_ok [Cert.Pre_index_range.Facts] (m : (ℓ : Loc nD τ sig) → Buf (Elt F) ℓ)
    (h : ∀ c : Dev nD, Cert.Pre_index_range.fn (F := F) (m ((c.tc : Thread nD τ).loc main_arg0)) (m ((c.tc : Thread nD τ).loc main_arg1))
      (m ((c.tc : Thread nD τ).loc main_arg2)) (m ((c.tc : Thread nD τ).loc main_arg3)) = fun _ => 1#1) (c : Dev nD) (n : ℕ) :
    word (rowsT m c) n < 50000 := by
  unfold word rowsT
  rw [atCall_rows]
  exact index_small _ _ _ _ (h c) _

end Cert.Proof.Gather

end
-- ==== Proof.Frames.lean ====
/-
  The frames: each program leaves its arguments and its semaphores as it found them.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch
public import proofs.«01_k».proof.Proof.Range
public import Idealize.ShloMosaic.Lib.Quiescent

@[expose] public section

noncomputable section

namespace Cert.Proof.Gather

open Cert.KernelIdeal Cert.KernelIdeal.Gen
open Idealize.ShloMosaic Idealize.ShloMosaic.TcCoe Idealize.SL.Sem

/-- At either reading of the numbers the kernel leaves its arguments and its semaphores alone. -/
theorem kept {F : FTy → Type} [FloatOps F] [∀ e, Nonempty (Elt F e)] (m : (ℓ : Loc nD τ sig) → Buf (Elt F) ℓ) (g : Dev nD → PrngReg)
    (hT : ∀ c n, word (rowsT m c) n < 50000) :
    θ_run (defs (F := F)) (onTc (τ := τ) (main (F := F))) ⟨m, fun _ => 0, g⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run (defs (F := F)) _ _).mono (fun _ hr => ⟨fun c => (hr.1 c).2, hr.2⟩) (run m g hT)

/-- The program as printed is the idealized one, -/
theorem main_same : @Cert.Kernel.main Bits _ Cert.Kernel.Gen.facts = @Cert.KernelIdeal.main Bits _ Cert.KernelIdeal.Gen.facts := rfl
/-- and so are the kernel bodies -/
theorem bodies_same : @Cert.Kernel.defs₀ Bits _ Cert.Kernel.Gen.facts = @Cert.KernelIdeal.defs₀ Bits _ Cert.KernelIdeal.Gen.facts := by
  refine congrArg Defs.onTc (funext fun l => funext fun x => ?_)
  obtain ⟨l, hl⟩ := l
  obtain rfl : l = 0 := by change l < 1 at hl; omega
  rfl
/-- and the functions the program calls. -/
theorem defs_same : @Cert.Kernel.defs Bits _ Cert.Kernel.Gen.facts = @Cert.KernelIdeal.defs Bits _ Cert.KernelIdeal.Gen.facts :=
  congrArg (Pipeline.defs (pcfgs (F := Bits))) bodies_same

theorem frame_ideal : quiescent_KernelIdeal (hKernelIdeal := Cert.KernelIdeal.Gen.facts) (hPre_index_range := Cert.Pre_index_range.Gen.facts) :=
  fun m g h => kept (F := Ideal) m g (rows_ok m h)

theorem frame_bits : quiescent_Kernel (hKernel := Cert.Kernel.Gen.facts) (hPre_index_range := Cert.Pre_index_range.Gen.facts) := by
  intro m g h
  rw [main_same, defs_same]
  exact kept (F := Bits) m g (rows_ok m h)

theorem frame_reference : quiescent_ReferenceIdeal (hReferenceIdeal := Cert.ReferenceIdeal.Gen.facts) :=
  fun m g _ => (θ_run _ _ _).mono (fun r hr => ⟨fun c => (hr c).2, sem_eq_zero_of_no_sems rfl r.2⟩) (Cert.ReferenceIdeal.Value.run m g)

theorem frame_reference_range : quiescent_ReferenceIdeal_pre_index_range (hReferenceIdeal := Cert.ReferenceIdeal.Gen.facts)
    (hPre_index_range := Cert.Pre_index_range.Gen.facts) :=
  fun m g _ => frame_reference m g trivial

end Cert.Proof.Gather

end
-- ==== Proof.Attend.lean ====
/-
  The mathematics of one position: its projected row scored against eight table rows, the scores' softmax, and the rows'
  weighted sum.  Over the extended reals.
-/
module

public import Idealize.ShloMosaic.Lib.Pipeline.ValueKit

@[expose] public section

noncomputable section

namespace Cert.Proof.Gather

open Idealize.ShloMosaic

/-- The value the running maximum starts from. -/
abbrev lowest : EReal := Ideal.ofBits .f32 0xFF800000#32

/-- The score of row `k`, -/
def score (q : Fin 768 → EReal) (ks : Fin 8 → Fin 768 → EReal) (k : Fin 8) : EReal := ∑ f, ks k f * q f
/-- the greatest score, -/
def top (q : Fin 768 → EReal) (ks : Fin 8 → Fin 768 → EReal) : EReal := Finset.fold max lowest (score q ks) Finset.univ
/-- the weight of row `k`, -/
def weight (q : Fin 768 → EReal) (ks : Fin 8 → Fin 768 → EReal) (k : Fin 8) : EReal :=
  Ideal.div (Ideal.exp (score q ks k - top q ks)) (∑ j, Ideal.exp (score q ks j - top q ks))
/-- and the rows' weighted sum. -/
def attend (q : Fin 768 → EReal) (ks : Fin 8 → Fin 768 → EReal) (e : Fin 768) : EReal := ∑ k, ks k e * weight q ks k

/-- A maximum already includes what it started from. -/
theorem max_top (q : Fin 768 → EReal) (ks : Fin 8 → Fin 768 → EReal) : max lowest (top q ks) = top q ks :=
  max_eq_right (Finset.le_fold_max _ |>.2 (.inl le_rfl))

/-- The same with each product the other way round, and the maximum taken with its start once more. -/
theorem attend_swapped (q : Fin 768 → EReal) (ks : Fin 8 → Fin 768 → EReal) (e : Fin 768) :
    (∑ k, Ideal.div (Ideal.exp (∑ f, q f * ks k f - max lowest (Finset.fold max lowest (fun j => ∑ f, q f * ks j f) Finset.univ)))
        (∑ j, Ideal.exp (∑ f, q f * ks j f - max lowest (Finset.fold max lowest (fun i => ∑ f, q f * ks i f) Finset.univ))) * ks k e)
      = attend q ks e := by
  have hs : ∀ k, ∑ f, q f * ks k f = score q ks k := fun k => Finset.sum_congr rfl fun f _ => mul_comm _ _
  simp only [hs]
  unfold attend weight
  rw [show Finset.fold max lowest (fun i => score q ks i) Finset.univ = top q ks from rfl, max_top]
  exact Finset.sum_congr rfl fun k _ => mul_comm _ _

end Cert.Proof.Gather

end
-- ==== Proof.BlockAt.lean ====
/-
  What one block computes, at an index: each row's attention over its eight table rows.
-/
module

public import proofs.«01_k».proof.Proof.Attend
public import proofs.«01_k».proof.Proof.Body

@[expose] public section

set_option maxRecDepth 16384

noncomputable section

namespace Cert.Proof.Gather

open Cert.KernelIdeal Cert.KernelIdeal.Gen
open Idealize.ShloMosaic Idealize.ShloMosaic.TcCoe Idealize.ShloMosaic.Tactic

theorem attend_at (Q : FVec Ideal S128x768 .f32) (K : FVec Ideal S128x8x768 .f32) (r : Fin 128) (e : Fin 768) :
    k0_pay1 Q K (ix2 r e) = attend (fun f => Q (ix2 r f)) (fun k f => K (ix3 r k f)) e := by
  pointwise [k0_pay1]
  rfl

theorem project_at (X : Vec Ideal S128x768 .f32) (Y : Vec Ideal S768x768 .f32) (r : Fin 128) (e : Fin 768) :
    k0_pay2 X Y (ix2 r e) = (∑ x, X (ix2 r x) * Y (ix2 x e) : EReal) := by
  pointwise [k0_pay2]

theorem unpack_at (P : Vec Ideal S1024x768 .f32) (r : Fin 128) (k : Fin 8) (e : Fin 768) :
    k0_pay3 P (ix3 r k e) = P (ix2 ⟨r.val * 8 + k.val, by omega⟩ e) := by
  pointwise [k0_pay3]

/-- Row `r` of block `b`. -/
theorem blockOut_at (T : S65536.Idx → BitVec 32) (V : S50000x1x768.Idx → Ideal .f32) (X : Vec Ideal S128x768 .f32) (Y : Vec Ideal S768x768 .f32)
    (b : ℕ) (r : Fin 128) (e : Fin 768) :
    blockOut T V X Y b (ix2 r e)
      = attend (fun f => ∑ x, X (ix2 r x) * Y (ix2 x f)) (fun k f => V (ix3 (rowOf T (8 * (128 * b + r.val) + k.val)) 0 f)) e := by
  unfold blockOut
  rw [attend_at]
  congr 1
  · funext f; exact project_at X Y r f
  · funext k f
    rw [unpack_at]
    show V (ix3 (rowOf T (1024 * b + (r.val * 8 + k.val))) 0 f) = _
    rw [show 1024 * b + (r.val * 8 + k.val) = 8 * (128 * b + r.val) + k.val by omega]

end Cert.Proof.Gather

end
-- ==== Proof.Result.lean ====
/-
  What the result array holds at the end, at an index.
-/
module

public import proofs.«01_k».proof.Proof.BlockAt
public import proofs.«01_k».proof.Proof.Launch
public import Idealize.ShloMosaic.Lib.Pipeline.Covers

@[expose] public section

set_option maxRecDepth 16384

noncomputable section

namespace Cert.Proof.Gather

open Cert.KernelIdeal Cert.KernelIdeal.Gen
open Idealize.ShloMosaic Idealize.ShloMosaic.TcCoe Idealize.ShloMosaic.Tactic
open Idealize.ShloMosaic.Pipeline (Dat)

theorem steps : ∀ t : Fin grid0.N, cc0_transform_0 (grid0.coords t) = ![t.val, 0] ∧ cc0_transform_1 (grid0.coords t) = ![0, 0]
    ∧ cc0_transform_3 (grid0.coords t) = ![t.val, 0] := by decide +kernel

variable (m : (ℓ : Loc nD τ sig) → Buf (Elt Ideal) ℓ)

/-- Point `t` takes row block `t` and writes row block `t`; the weights are one block. -/
theorem blocks_at (t : Fin grid0.N) :
    (win0 (adm m 0) 0).index t = ![t.val, 0] ∧ (win0 (adm m 0) 1).index t = ![0, 0] ∧ (win0 (adm m 0) 2).index t = ![t.val, 0] :=
  steps t

theorem tiled : (win0 (adm m 0) 2).Covers :=
  (win0 (adm m 0) 2).covers_of_index_surj rfl (show ∀ a : Fin 2, 0 < S128x768.size a by decide) fun β =>
    ⟨⟨(β 0).val, lt_of_lt_of_eq (β 0).isLt (show (8192 + 128 - 1) / 128 = grid0.N from rfl)⟩, fun a => by
      rw [(blocks_at m _).2.2]
      match a with
      | ⟨0, _⟩ => rfl
      | ⟨1, h⟩ => exact (Nat.lt_one_iff.1 (lt_of_lt_of_eq (β ⟨1, h⟩).isLt (show (768 + 768 - 1) / 768 = 1 from rfl))).symm⟩

/-- The hidden rows as the call finds them, -/
abbrev hidden (c : Dev nD) : FVec Ideal S8192x768 .f32 := atCall m c (Proc.devRef .tc main_v1)
/-- and the weights. -/
abbrev weights (c : Dev nD) : FVec Ideal S768x768 .f32 := atCall m c (Proc.devRef .tc main_arg3)

theorem hidBlock_at (c : Dev nD) (t : Fin grid0.N) (r : Fin 128) (x : Fin 768) :
    hidBlock m c t (ix2 r x) = hidden m c (ix2 ⟨128 * t.val + r.val, by have := lt_of_lt_of_eq t.isLt (show grid0.N = 64 from rfl); omega⟩ x) := by
  unfold hidBlock
  blk_ext [blocks_at m t]
theorem wtBlock_at (c : Dev nD) (t : Fin grid0.N) (x f : Fin 768) : wtBlock m c t (ix2 x f) = weights m c (ix2 x f) := by
  unfold wtBlock
  blk_ext [blocks_at m t]

/-- The result's rows. -/
def resultRow (c : Dev nD) (n : Fin 8192) (e : Fin 768) : EReal :=
  attend (fun f => ∑ x, hidden m c (ix2 n x) * weights m c (ix2 x f)) (fun k f => valsV m c (ix3 (rowOf (rowsT m c) (8 * n.val + k.val)) 0 f)) e

theorem outBlock_at (c : Dev nD) (t : Fin grid0.N) (r : Fin 128) (e : Fin 768) :
    outBlock m c t (ix2 r e) = resultRow m c ⟨128 * t.val + r.val, by have := lt_of_lt_of_eq t.isLt (show grid0.N = 64 from rfl); omega⟩ e := by
  unfold outBlock resultRow
  rw [blockOut_at]
  simp only [hidBlock_at, wtBlock_at]

theorem split_block (y : S128x768.Idx) : ∃ (r : Fin 128) (e : Fin 768), y = ix2 r e := ⟨y 0, y 1, ValueIdx.eq_ix2 y⟩

theorem called_eq (c : Dev nD) : called m c = fun y => resultRow m c (y 0) (y 1) := by
  refine (dats m 0 c).arrAt_eq_of_covers 2 _ (tiled m) fun t hf y => ?_
  blk_simp
  rw [after_2]
  obtain ⟨r, e, rfl⟩ := split_block y
  refine (outBlock_at m c t r e).trans ?_
  congr 1
  · refine Fin.ext ?_
    blk_simp
    have h : (win0 (adm m 0) 2).index t 0 = t.val := congrFun (blocks_at m t).2.2 0
    refine Eq.trans ?_ (congrArg (fun n => n * 128 + r.val) h.symm)
    show 128 * t.val + r.val = t.val * 128 + r.val
    omega
  · refine Fin.ext ?_
    blk_simp
    have h : (win0 (adm m 0) 2).index t 1 = 0 := congrFun (blocks_at m t).2.2 1
    refine Eq.trans ?_ (congrArg (fun n => n * 768 + e.val) h.symm)
    show e.val = 0 * 768 + e.val
    omega

end Cert.Proof.Gather

end
-- ==== Proof.ReferenceAt.lean ====
/-
  What the reference computes, at an index: the same attention of each position over its eight table rows.
-/
module

public import proofs.«01_k».proof.Proof.Attend
public import proofs.«01_k».proof.Proof.Gen.ReferenceIdeal
public import proofs.«01_k».proof.Proof.Gen.ReferenceIdeal.Run

@[expose] public section

set_option maxRecDepth 16384

noncomputable section

namespace Cert.Proof.Gather

open Cert.ReferenceIdeal Cert.ReferenceIdeal.Gen Cert.ReferenceIdeal.Value
open Idealize.ShloMosaic Idealize.ShloMosaic.TcCoe Idealize.ShloMosaic.Tactic

/-- The take of whole rows, at an index: the row the start index names, held to the table. -/
theorem take_at {α : Type} (x : S50000x768.Idx → α) (idx : IVec S32x256x8x1 32) (i : Fin 32) (l : Fin 256) (k : Fin 8) (f : Fin 768) :
    Host.gather gather_S50000x768_S32x256x8x1_S32x256x8x768_3_0_n_n_0_3_1768 x idx (ix4 i l k f)
      = x (ix2 ⟨min (idx (ix4 i l k 0)).toInt.toNat 49999, by omega⟩ f) := by
  set d := gather_S50000x768_S32x256x8x1_S32x256x8x768_3_0_n_n_0_3_1768 with hd
  have hs : ∀ n, d.siIdx (ix4 i l k f) n = ix4 i l k 0 := fun n => by
    funext b; refine Fin.ext ?_
    match b with
    | ⟨0, _⟩ => rfl
    | ⟨1, _⟩ => rfl
    | ⟨2, _⟩ => rfl
    | ⟨3, _⟩ => exact Nat.lt_one_iff.1 (Fin.isLt _)
  unfold Host.gather
  congr 1
  funext a
  refine Fin.ext ?_
  show d.start (ix4 i l k f) idx a + d.batchCoord (ix4 i l k f) a + d.offCoord (ix4 i l k f) a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (List.mem_singleton.mpr rfl)), Nat.add_zero]
    unfold GatherDims.start
    rw [dif_pos (show (⟨0, h0⟩ : Fin 2) ∈ d.startIndexMap from List.mem_singleton.mpr rfl), hs]
    rfl
  | ⟨1, h1⟩ =>
    unfold GatherDims.start
    rw [dif_neg (show (⟨1, h1⟩ : Fin 2) ∉ d.startIndexMap from fun h => absurd (congrArg Fin.val (List.mem_singleton.1 h)) Nat.one_ne_zero), Nat.zero_add]
    rfl

/-- A word in the table's range is not negative, and is its own start index. -/
theorem start_small (w : BitVec 32) (h : w.toNat < 50000) :
    min (Scalar.select (IntOp.cmpi .slt w 0#32) (IntOp.addi w 50000#32) w).toInt.toNat 49999 = w.toNat := by
  have e : w.toInt = w.toNat := by rw [BitVec.toInt_eq_toNat_cond, if_pos (by omega)]
  have hn : IntOp.cmpi .slt w 0#32 = 0#1 := by
    show BitVec.ofBool (w.slt 0#32) = 0#1
    rw [BitVec.slt, e, show (0#32).toInt = 0 from by decide, decide_eq_false (by omega)]
    rfl
  rw [hn, ValueIdx.select_zero, e]
  omega

/-- The rows the reference takes. -/
abbrev taken (X : FVec Ideal S50000x768 .f32) (I : IVec S32x256x8 32) : FVec Ideal S32x256x8x768 .f32 :=
  Host.gather gather_S50000x768_S32x256x8x1_S32x256x8x768_3_0_n_n_0_3_1768 X
    (broadcastInDim S32x256x8x1 ![0, 1, 2] bcast_S32x256x8_S32x256x8x1_0_1_2
      (select (cmpi .slt I (broadcastInDim S32x256x8 ![] bcast_S_S32x256x8 (constantI S_ 32 0#32)))
        (addi I (broadcastInDim S32x256x8 ![] bcast_S_S32x256x8 (constantI S_ 32 50000#32))) I))

theorem taken_at (X : FVec Ideal S50000x768 .f32) (I : IVec S32x256x8 32) (i : Fin 32) (l : Fin 256) (k : Fin 8) (f : Fin 768)
    (h : (I (ix3 i l k)).toNat < 50000) : taken X I (ix4 i l k f) = X (ix2 ⟨(I (ix3 i l k)).toNat, h⟩ f) := by
  unfold taken
  rw [take_at]
  congr 1
  refine congrArg (fun r => ix2 r f) (Fin.ext ?_)
  refine Eq.trans ?_ (start_small _ h)
  pointwise

/-- The projected row of a position. -/
abbrev projected (X : FVec Ideal S32x256x768 .f32) (Y : FVec Ideal S768x768 .f32) (i : Fin 32) (l : Fin 256) (f : Fin 768) : EReal :=
  ∑ x, X (ix3 i l x) * Y (ix2 x f)

theorem reference_at (m : (ℓ : Loc nD τ sig) → Buf (Elt Ideal) ℓ) (c : Dev nD) (i : Fin 32) (l : Fin 256) (e : Fin 768) :
    res_main_v20 m c (ix3 i l e)
      = attend (projected (m ((c : Thread nD τ).loc main_arg0)) (m ((c : Thread nD τ).loc main_arg3)) i l)
          (fun k f => taken (m ((c : Thread nD τ).loc main_arg2)) (m ((c : Thread nD τ).loc main_arg1)) (ix4 i l k f)) e := by
  refine Eq.trans ?_ (attend_swapped (projected (m ((c : Thread nD τ).loc main_arg0)) (m ((c : Thread nD τ).loc main_arg3)) i l)
          (fun k f => taken (m ((c : Thread nD τ).loc main_arg2)) (m ((c : Thread nD τ).loc main_arg1)) (ix4 i l k f)) e)
  pointwise [res_main_v20]

end Cert.Proof.Gather

end
-- ==== Proof.Equation.lean ====
/-
  The equation: position by position, the kernel's result is the reference's.
-/
module

public import proofs.«01_k».proof.Proof.Result
public import proofs.«01_k».proof.Proof.ReferenceAt

@[expose] public section

set_option maxRecDepth 16384

noncomputable section

namespace Cert.Proof.Gather

open Cert.KernelIdeal Cert.KernelIdeal.Gen
open Idealize.ShloMosaic Idealize.ShloMosaic.TcCoe Idealize.ShloMosaic.Tactic

variable (m : (ℓ : Loc nD τ sig) → Buf (Elt Ideal) ℓ)

/-- The arguments, by their types: the hidden rows, -/
abbrev arg0 (c : Dev nD) : FVec Ideal S32x256x768 .f32 := m ((c : Thread nD τ).loc main_arg0)
/-- the indices, -/
abbrev arg1 (c : Dev nD) : IVec S32x256x8 32 := m ((c : Thread nD τ).loc main_arg1)
/-- the table -/
abbrev arg2 (c : Dev nD) : FVec Ideal S50000x768 .f32 := m ((c : Thread nD τ).loc main_arg2)
/-- and the weights. -/
abbrev argW (c : Dev nD) : FVec Ideal S768x768 .f32 := m ((c : Thread nD τ).loc main_arg3)

/-- Position `(i, l)` is row `256 i + l` of the call's arrays. -/
abbrev rowAt (i : Fin 32) (l : Fin 256) : Fin 8192 := ⟨256 * i.val + l.val, by omega⟩

theorem flat_rows {α : Type} (X : S32x256x768.Idx → α) (i : Fin 32) (l : Fin 256) (x : Fin 768) :
    shapeCast S8192x768 X Facts₀.shapeCasts_S32x256x768_S8192x768 (ix2 (rowAt i l) x) = X (ix3 i l x) := by
  pointwise
  blk_ext
theorem flat_words (X : S32x256x8.Idx → BitVec 32) (i : Fin 32) (l : Fin 256) (k : Fin 8) :
    shapeCast S65536 X Facts₀.shapeCasts_S32x256x8_S65536 (wordIx (8 * (rowAt i l).val + k.val)) = X (ix3 i l k) := by
  unfold wordIx
  pointwise
  blk_ext
theorem flat_table {α : Type} (X : S50000x768.Idx → α) (r : Fin 50000) (f : Fin 768) :
    shapeCast S50000x1x768 X Facts₀.shapeCasts_S50000x768_S50000x1x768 (ix3 r 0 f) = X (ix2 r f) := by
  pointwise
theorem unflat_rows {α : Type} (X : S8192x768.Idx → α) (i : Fin 32) (l : Fin 256) (e : Fin 768) :
    shapeCast S32x256x768 X Facts₀.shapeCasts_S8192x768_S32x256x768 (ix3 i l e) = X (ix2 (rowAt i l) e) := by
  pointwise
  blk_ext

theorem hidden_at (c : Dev nD) (i : Fin 32) (l : Fin 256) (x : Fin 768) : hidden m c (ix2 (rowAt i l) x) = arg0 m c (ix3 i l x) :=
  (congrFun (atCall_hidden m c) _).trans (flat_rows _ i l x)
theorem weights_eq (c : Dev nD) : weights m c = argW m c := atCall_arg m c main_arg3 (by decide) (by decide) (by decide)
theorem vals_at (c : Dev nD) (r : Fin 50000) (f : Fin 768) : valsV m c (ix3 r 0 f) = arg2 m c (ix2 r f) :=
  (congrFun (atCall_vals m c) _).trans (flat_table _ r f)
theorem rows_at (c : Dev nD) (i : Fin 32) (l : Fin 256) (k : Fin 8) :
    rowsT m c (wordIx (8 * (rowAt i l).val + k.val)) = arg1 m c (ix3 i l k) :=
  (congrFun (atCall_rows m c) _).trans (flat_words _ i l k)

theorem row_at (c : Dev nD) (i : Fin 32) (l : Fin 256) (k : Fin 8) (h : (arg1 m c (ix3 i l k)).toNat < 50000) :
    rowOf (rowsT m c) (8 * (rowAt i l).val + k.val) = ⟨(arg1 m c (ix3 i l k)).toNat, h⟩ :=
  Fin.ext (by show (rowsT m c _).toNat % 50000 = _; rw [rows_at]; exact Nat.mod_eq_of_lt h)

/-- The row of the result at position `(i, l)`. -/
theorem result_at (c : Dev nD) (hI : ∀ j, (arg1 m c j).toNat < 50000) (i : Fin 32) (l : Fin 256) (e : Fin 768) :
    resultRow m c (rowAt i l) e = attend (projected (arg0 m c) (argW m c) i l) (fun k f => taken (arg2 m c) (arg1 m c) (ix4 i l k f)) e := by
  unfold resultRow
  congr 1
  · funext f
    exact Finset.sum_congr rfl fun x _ => by rw [hidden_at, weights_eq]
  funext k f
  rw [row_at m c i l k (hI _), vals_at]
  exact (taken_at (arg2 m c) (arg1 m c) i l k f (hI _)).symm

/-- The array the program returns. -/
theorem returned_at (c : Dev nD) (i : Fin 32) (l : Fin 256) (e : Fin 768) :
    shapeCast S32x256x768 (called m c) Facts₀.shapeCasts_S8192x768_S32x256x768 (ix3 i l e) = resultRow m c (rowAt i l) e :=
  (unflat_rows _ i l e).trans (congrFun (called_eq m c) _)

/-- The reference, from equal arguments, ends with the same array. -/
theorem equal (m' : (ℓ : Loc Cert.ReferenceIdeal.nD Cert.ReferenceIdeal.τ Cert.ReferenceIdeal.sig) → Buf (Elt Ideal) ℓ) (c : Dev nD)
    (hI : ∀ j, (arg1 m c j).toNat < 50000)
    (h0 : m' ((c.tc : Thread Cert.ReferenceIdeal.nD Cert.ReferenceIdeal.τ).loc Cert.ReferenceIdeal.main_arg0) = arg0 m c)
    (h1 : m' ((c.tc : Thread Cert.ReferenceIdeal.nD Cert.ReferenceIdeal.τ).loc Cert.ReferenceIdeal.main_arg1) = arg1 m c)
    (h2 : m' ((c.tc : Thread Cert.ReferenceIdeal.nD Cert.ReferenceIdeal.τ).loc Cert.ReferenceIdeal.main_arg2) = arg2 m c)
    (h3 : m' ((c.tc : Thread Cert.ReferenceIdeal.nD Cert.ReferenceIdeal.τ).loc Cert.ReferenceIdeal.main_arg3) = argW m c) :
    Cert.ReferenceIdeal.Value.res_main_v20 m' c = shapeCast S32x256x768 (called m c) Facts₀.shapeCasts_S8192x768_S32x256x768 := by
  funext y
  obtain ⟨i, l, e, rfl⟩ : ∃ (i : Fin 32) (l : Fin 256) (e : Fin 768), y = ix3 i l e := ⟨y 0, y 1, y 2, ValueIdx.eq_ix3 y⟩
  refine (reference_at m' c i l e).trans ?_
  rw [h0, h1, h2, h3]
  exact ((returned_at m c i l e).trans (result_at m c hI i l e)).symm

end Cert.Proof.Gather

end
-- ==== Proof.lean ====
/-
  The certificate: the kernel's run (Proof/Launch.lean) read at the bits and at the extended reals, the reference's run
  beside it.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_index_range
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem

/-- The kernel computes the reference's array. -/
theorem value : algebraic_KernelIdeal_ReferenceIdeal (hKernelIdeal := Cert.KernelIdeal.Gen.facts) (hReferenceIdeal := Cert.ReferenceIdeal.Gen.facts)
    (hPre_index_range := Cert.Pre_index_range.Gen.facts) := by
  intro m g m' g' h same
  refine ⟨_, (θ_run (Cert.KernelIdeal.defs (F := Ideal)) _ _).mono (fun r hr => hr.1) (Gather.run (F := Ideal) m g (Gather.rows_ok m h)), ?_⟩
  refine (θ_run (Cert.ReferenceIdeal.defs (F := Ideal)) _ _).mono (fun r hr c => ⟨(hr c).1.trans ?_, (hr c).2⟩) (Cert.ReferenceIdeal.Value.run m' g')
  exact Gather.equal m m' c (Gather.index_small _ _ _ _ (h c)) (same c).1 (same c).2.1 (same c).2.2.1 (same c).2.2.2

/-- The certificate. -/
theorem claim : Cert.Claim :=
  ⟨Cert.Kernel.Gen.facts, Cert.KernelIdeal.Gen.facts, Cert.ReferenceIdeal.Gen.facts, Cert.Pre_index_range.Gen.facts,
    Gather.frame_bits, Gather.frame_ideal, Gather.frame_reference, Gather.frame_reference_range, trivial, value⟩

end Cert.Proof

end
